-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_levels [hPre_levels : Cert.Pre_levels.Facts] (m : (ℓ : Loc Cert.KernelIdeal.nD Cert.KernelIdeal.τ Cert.KernelIdeal.sig) → Buf (Elt Ideal) ℓ) : Prop :=
  ∀ c : Dev Cert.KernelIdeal.nD,
    (Cert.Pre_levels.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_levels [hPre_levels : Cert.Pre_levels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_levels.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_levels [hKernelIdeal : Cert.KernelIdeal.Facts] [hPre_levels : Cert.Pre_levels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_levels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_levels [hReferenceIdeal : Cert.ReferenceIdeal.Facts] [hPre_levels : Cert.Pre_levels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_levels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_levels [hKernelIdeal : Cert.KernelIdeal.Facts] [hReferenceIdeal : Cert.ReferenceIdeal.Facts] [hPre_levels : Cert.Pre_levels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_levels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_levels : Cert.Pre_levels.Facts),
    quiescent_Kernel (hKernel := hKernel)
    ∧ quiescent_KernelIdeal (hKernelIdeal := hKernelIdeal)
    ∧ quiescent_KernelIdeal_pre_levels (hKernelIdeal := hKernelIdeal) (hPre_levels := hPre_levels)
    ∧ quiescent_ReferenceIdeal (hReferenceIdeal := hReferenceIdeal)
    ∧ quiescent_ReferenceIdeal_pre_levels (hReferenceIdeal := hReferenceIdeal) (hPre_levels := hPre_levels)
    ∧ preserves_Kernel_KernelIdeal
    ∧ algebraic_KernelIdeal_ReferenceIdeal_pre_levels (hKernelIdeal := hKernelIdeal) (hReferenceIdeal := hReferenceIdeal) (hPre_levels := hPre_levels)
-- ==== Pre_levels.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn {F : FTy → Type} [FloatOps F] (main_arg0 : IVec S64x512x512 32) : IVec S_ 1 :=
  let main_c : IVec S_ 32 := constantI S_ 32 0#32
  let main_v0 : IVec S64x512x512 32 := broadcastInDim S64x512x512 ![] bcast_S_S64x512x512 main_c
  let main_v1 : IVec S64x512x512 1 := cmpi .sge main_arg0 main_v0
  let main_c_0 : IVec S_ 32 := constantI S_ 32 256#32
  let main_v2 : IVec S64x512x512 32 := broadcastInDim S64x512x512 ![] bcast_S_S64x512x512 main_c_0
  let main_v3 : IVec S64x512x512 1 := cmpi .slt main_arg0 main_v2
  let main_v4 : IVec S64x512x512 1 := andi main_v1 main_v3
  let main_c_1 : IVec S_ 1 := constantI S_ 1 1#1
  let main_v5 : IVec S_ 1 := (fun x v => Host.reduce IntOp.andi x v reducesTo_S64x512x512_S_d0_1_2 h_S_) main_v4 main_c_1
  main_v5
-- ==== Kernel.lean ====
abbrev S64x512x512 : Shape := ⟨3, ![64, 512, 512]⟩
abbrev S64x16x1x16384 : Shape := ⟨4, ![64, 16, 1, 16384]⟩
abbrev S_ : Shape := ⟨0, ![]⟩
abbrev S64x17x1x16384 : Shape := ⟨4, ![64, 17, 1, 16384]⟩
abbrev S64x1x8 : Shape := ⟨3, ![64, 1, 8]⟩
abbrev S1x1x1x16384 : Shape := ⟨4, ![1, 1, 1, 16384]⟩
abbrev S1x1x8 : Shape := ⟨3, ![1, 1, 8]⟩
abbrev S256x1024 : Shape := ⟨2, ![256, 1024]⟩
abbrev S1x16384 : Shape := ⟨2, ![1, 16384]⟩
abbrev S2x16384 : Shape := ⟨2, ![2, 16384]⟩
abbrev S256x16384 : Shape := ⟨2, ![256, 16384]⟩
abbrev S2x16383 : Shape := ⟨2, ![2, 16383]⟩
abbrev S2x1 : Shape := ⟨2, ![2, 1]⟩
abbrev S2x15871 : Shape := ⟨2, ![2, 15871]⟩
abbrev S2x513 : Shape := ⟨2, ![2, 513]⟩
abbrev S2x15872 : Shape := ⟨2, ![2, 15872]⟩
abbrev S2x512 : Shape := ⟨2, ![2, 512]⟩
abbrev S2x15873 : Shape := ⟨2, ![2, 15873]⟩
abbrev S2x511 : Shape := ⟨2, ![2, 511]⟩
abbrev S1024x16384 : Shape := ⟨2, ![1024, 16384]⟩
abbrev S256x256 : Shape := ⟨2, ![256, 256]⟩
abbrev S1x1 : Shape := ⟨2, ![1, 1]⟩
abbrev S1x256x256 : Shape := ⟨3, ![1, 256, 256]⟩
abbrev S1 : Shape := ⟨1, ![1]⟩
abbrev S1x1x1 : Shape := ⟨3, ![1, 1, 1]⟩
abbrev S1x8 : Shape := ⟨2, ![1, 8]⟩
abbrev S64x1x5 : Shape := ⟨3, ![64, 1, 5]⟩
abbrev S64x5 : Shape := ⟨2, ![64, 5]⟩

abbrev nBuf : Space → Nat
  | .hbm => 8
  | .vmem => 7
  | .smem => 0
  | _ => 0

abbrev bufTy : (tb : Table) → Fin (tcTables nBuf tb) → BufTy
  | .hbm, ⟨0, _⟩ => ⟨S64x512x512, .i32⟩
  | .hbm, ⟨1, _⟩ => ⟨S64x16x1x16384, .i32⟩
  | .hbm, ⟨2, _⟩ => ⟨S_, .i32⟩
  | .hbm, ⟨3, _⟩ => ⟨S_, .i32⟩
  | .hbm, ⟨4, _⟩ => ⟨S64x17x1x16384, .i32⟩
  | .hbm, ⟨5, _⟩ => ⟨S64x1x8, .f32⟩
  | .hbm, ⟨6, _⟩ => ⟨S64x1x5, .f32⟩
  | .hbm, ⟨7, _⟩ => ⟨S64x5, .f32⟩
  | .local _ .vmem, ⟨0, _⟩ => ⟨S1x1x1x16384, .i32⟩
  | .local _ .vmem, ⟨1, _⟩ => ⟨S1x1x1x16384, .i32⟩
  | .local _ .vmem, ⟨2, _⟩ => ⟨S1x1x1x16384, .i32⟩
  | .local _ .vmem, ⟨3, _⟩ => ⟨S1x1x1x16384, .i32⟩
  | .local _ .vmem, ⟨4, _⟩ => ⟨S1x1x8, .f32⟩
  | .local _ .vmem, ⟨5, _⟩ => ⟨S1x1x8, .f32⟩
  | .local _ .vmem, ⟨6, _⟩ => ⟨S256x1024, .f32⟩
  | _, _ => ⟨S64x512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v105 : BitVec 1 := Scalar.cmpi .eq arg1 c15_i32
  let v106 : BitVec 32 := Scalar.extui v105
  let c0_i32_28 : BitVec 32 := 0#32
  let v107 : BitVec 1 := Scalar.cmpi .ne v106 c0_i32_28
  v107

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S64x512x512 : Shape := ⟨3, ![64, 512, 512]⟩
abbrev S64x512x511 : Shape := ⟨3, ![64, 512, 511]⟩
abbrev S64x511x511 : Shape := ⟨3, ![64, 511, 511]⟩
abbrev S64x511x512 : Shape := ⟨3, ![64, 511, 512]⟩
abbrev S64 : Shape := ⟨1, ![64]⟩
abbrev S64x1x1 : Shape := ⟨3, ![64, 1, 1]⟩
abbrev S_ : Shape := ⟨0, ![]⟩
abbrev S64x65536 : Shape := ⟨2, ![64, 65536]⟩
abbrev S64x512x511x1 : Shape := ⟨4, ![64, 512, 511, 1]⟩
abbrev S64x512x511x2 : Shape := ⟨4, ![64, 512, 511, 2]⟩
abbrev S64x256x256 : Shape := ⟨3, ![64, 256, 256]⟩
abbrev S64x511x511x1 : Shape := ⟨4, ![64, 511, 511, 1]⟩
abbrev S64x511x511x2 : Shape := ⟨4, ![64, 511, 511, 2]⟩
abbrev S64x511x512x1 : Shape := ⟨4, ![64, 511, 512, 1]⟩
abbrev S64x511x512x2 : Shape := ⟨4, ![64, 511, 512, 2]⟩
abbrev S64x1x256x256 : Shape := ⟨4, ![64, 1, 256, 256]⟩
abbrev S64x4x256x256 : Shape := ⟨4, ![64, 4, 256, 256]⟩
abbrev S1x64x256x256 : Shape := ⟨4, ![1, 64, 256, 256]⟩
abbrev S4x64x256x256 : Shape := ⟨4, ![4, 64, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S1x1x256x256 : Shape := ⟨4, ![1, 1, 256, 256]⟩
abbrev S64x4 : Shape := ⟨2, ![64, 4]⟩
abbrev S4x64 : Shape := ⟨2, ![4, 64]⟩
abbrev S1x256x1 : Shape := ⟨3, ![1, 256, 1]⟩
abbrev S1x1x256x1 : Shape := ⟨4, ![1, 1, 256, 1]⟩
abbrev S1x1x256 : Shape := ⟨3, ![1, 1, 256]⟩
abbrev S1x1x1x256 : Shape := ⟨4, ![1, 1, 1, 256]⟩
abbrev S64x4x1x1 : Shape := ⟨4, ![64, 4, 1, 1]⟩
abbrev S64x4x256x1 : Shape := ⟨4, ![64, 4, 256, 1]⟩
abbrev S64x4x1x256 : Shape := ⟨4, ![64, 4, 1, 256]⟩
abbrev S4 : Shape := ⟨1, ![4]⟩
abbrev S1x64 : Shape := ⟨2, ![1, 64]⟩
abbrev S5x64 : Shape := ⟨2, ![5, 64]⟩
abbrev S64x5 : Shape := ⟨2, ![64, 5]⟩

abbrev nBuf : Space → Nat
  | .hbm => 304
  | .vmem => 0
  | .smem => 0
  | _ => 0

abbrev hbmTy0_0 (i : Nat) : BufTy := match i % 128 with
  | 0 => ⟨S64x512x512, .i32⟩
  | 1 => ⟨S64x512x511, .i32⟩
  | 2 => ⟨S64x512x511, .i32⟩
  | 3 => ⟨S64x511x511, .i32⟩
  | 4 => ⟨S64x511x511, .i32⟩
  | 5 => ⟨S64x511x512, .i32⟩
  | 6 => ⟨S64x511x512, .i32⟩
  | 7 => ⟨S64x511x511, .i32⟩
  | 8 => ⟨S64x511x511, .i32⟩
  | 9 => ⟨S64, .i32⟩
  | 10 => ⟨S64x1x1, .i32⟩
  | 11 => ⟨S_, .i32⟩
  | 12 => ⟨S64x512x511, .i32⟩
  | 13 => ⟨S64x512x511, .i32⟩
  | 14 => ⟨S64x512x511, .i32⟩
  | 15 => ⟨S_, .f32⟩
  | 16 => ⟨S64x65536, .f32⟩
  | 17 => ⟨S_, .i32⟩
  | 18 => ⟨S64x1x1, .i32⟩
  | 19 => ⟨S64x1x1, .i1⟩
  | 20 => ⟨S_, .i32⟩
  | 21 => ⟨S64x1x1, .i32⟩
  | 22 => ⟨S64x1x1, .i32⟩
  | 23 => ⟨S64x1x1, .i32⟩
  | 24 => ⟨S_, .i32⟩
  | 25 => ⟨S64x512x511, .i32⟩
  | 26 => ⟨S64x512x511, .i1⟩
  | 27 => ⟨S_, .i32⟩
  | 28 => ⟨S64x512x511, .i32⟩
  | 29 => ⟨S64x512x511, .i32⟩
  | 30 => ⟨S64x512x511, .i32⟩
  | 31 => ⟨S64x512x511, .i32⟩
  | 32 => ⟨S64x512x511x1, .i32⟩
  | 33 => ⟨S64x512x511x1, .i32⟩
  | 34 => ⟨S64x512x511x2, .i32⟩
  | 35 => ⟨S_, .f32⟩
  | 36 => ⟨S64x512x511, .f32⟩
  | 37 => ⟨S64x65536, .f32⟩
  | 38 => ⟨S64x256x256, .f32⟩
  | 39 => ⟨S_, .i32⟩
  | 40 => ⟨S64x511x511, .i32⟩
  | 41 => ⟨S64x511x511, .i32⟩
  | 42 => ⟨S64x511x511, .i32⟩
  | 43 => ⟨S_, .f32⟩
  | 44 => ⟨S64x65536, .f32⟩
  | 45 => ⟨S_, .i32⟩
  | 46 => ⟨S64x1x1, .i32⟩
  | 47 => ⟨S64x1x1, .i1⟩
  | 48 => ⟨S_, .i32⟩
  | 49 => ⟨S64x1x1, .i32⟩
  | 50 => ⟨S64x1x1, .i32⟩
  | 51 => ⟨S64x1x1, .i32⟩
  | 52 => ⟨S_, .i32⟩
  | 53 => ⟨S64x511x511, .i32⟩
  | 54 => ⟨S64x511x511, .i1⟩
  | 55 => ⟨S_, .i32⟩
  | 56 => ⟨S64x511x511, .i32⟩
  | 57 => ⟨S64x511x511, .i32⟩
  | 58 => ⟨S64x511x511, .i32⟩
  | 59 => ⟨S64x511x511, .i32⟩
  | 60 => ⟨S64x511x511x1, .i32⟩
  | 61 => ⟨S64x511x511x1, .i32⟩
  | 62 => ⟨S64x511x511x2, .i32⟩
  | 63 => ⟨S_, .f32⟩
  | 64 => ⟨S64x511x511, .f32⟩
  | 65 => ⟨S64x65536, .f32⟩
  | 66 => ⟨S64x256x256, .f32⟩
  | 67 => ⟨S_, .i32⟩
  | 68 => ⟨S64x511x512, .i32⟩
  | 69 => ⟨S64x511x512, .i32⟩
  | 70 => ⟨S64x511x512, .i32⟩
  | 71 => ⟨S_, .f32⟩
  | 72 => ⟨S64x65536, .f32⟩
  | 73 => ⟨S_, .i32⟩
  | 74 => ⟨S64x1x1, .i32⟩
  | 75 => ⟨S64x1x1, .i1⟩
  | 76 => ⟨S_, .i32⟩
  | 77 => ⟨S64x1x1, .i32⟩
  | 78 => ⟨S64x1x1, .i32⟩
  | 79 => ⟨S64x1x1, .i32⟩
  | 80 => ⟨S_, .i32⟩
  | 81 => ⟨S64x511x512, .i32⟩
  | 82 => ⟨S64x511x512, .i1⟩
  | 83 => ⟨S_, .i32⟩
  | 84 => ⟨S64x511x512, .i32⟩
  | 85 => ⟨S64x511x512, .i32⟩
  | 86 => ⟨S64x511x512, .i32⟩
  | 87 => ⟨S64x511x512, .i32⟩
  | 88 => ⟨S64x511x512x1, .i32⟩
  | 89 => ⟨S64x511x512x1, .i32⟩
  | 90 => ⟨S64x511x512x2, .i32⟩
  | 91 => ⟨S_, .f32⟩
  | 92 => ⟨S64x511x512, .f32⟩
  | 93 => ⟨S64x65536, .f32⟩
  | 94 => ⟨S64x256x256, .f32⟩
  | 95 => ⟨S_, .i32⟩
  | 96 => ⟨S64x511x511, .i32⟩
  | 97 => ⟨S64x511x511, .i32⟩
  | 98 => ⟨S64x511x511, .i32⟩
  | 99 => ⟨S_, .f32⟩
  | 100 => ⟨S64x65536, .f32⟩
  | 101 => ⟨S_, .i32⟩
  | 102 => ⟨S64x1x1, .i32⟩
  | 103 => ⟨S64x1x1, .i1⟩
  | 104 => ⟨S_, .i32⟩
  | 105 => ⟨S64x1x1, .i32⟩
  | 106 => ⟨S64x1x1, .i32⟩
  | 107 => ⟨S64x1x1, .i32⟩
  | 108 => ⟨S_, .i32⟩
  | 109 => ⟨S64x511x511, .i32⟩
  | 110 => ⟨S64x511x511, .i1⟩
  | 111 => ⟨S_, .i32⟩
  | 112 => ⟨S64x511x511, .i32⟩
  | 113 => ⟨S64x511x511, .i32⟩
  | 114 => ⟨S64x511x511, .i32⟩
  | 115 => ⟨S64x511x511, .i32⟩
  | 116 => ⟨S64x511x511x1, .i32⟩
  | 117 => ⟨S64x511x511x1, .i32⟩
  | 118 => ⟨S64x511x511x2, .i32⟩
  | 119 => ⟨S_, .f32⟩
  | 120 => ⟨S64x511x511, .f32⟩
  | 121 => ⟨S64x65536, .f32⟩
  | 122 => ⟨S64x256x256, .f32⟩
  | 123 => ⟨S64x1x256x256, .f32⟩
  | 124 => ⟨S64x1x256x256, .f32⟩
  | 125 => ⟨S64x1x256x256, .f32⟩
  | 126 => ⟨S64x1x256x256, .f32⟩
  | 127 => ⟨S64x4x256x256, .f32⟩
  | _ => ⟨S64x512x512, .i32⟩

abbrev hbmTy0_1 (i : Nat) : BufTy := match i % 128 with
  | 0 => ⟨S64x1x256x256, .f32⟩
  | 1 => ⟨S64x256x256, .f32⟩
  | 2 => ⟨S64x256x256, .f32⟩
  | 3 => ⟨S64x256x256, .f32⟩
  | 4 => ⟨S_, .f32⟩
  | 5 => ⟨S64, .f32⟩
  | 6 => ⟨S64x1x1, .f32⟩
  | 7 => ⟨S64x256x256, .f32⟩
  | 8 => ⟨S64x256x256, .f32⟩
  | 9 => ⟨S64x1x256x256, .f32⟩
  | 10 => ⟨S64x256x256, .f32⟩
  | 11 => ⟨S64x256x256, .f32⟩
  | 12 => ⟨S64x256x256, .f32⟩
  | 13 => ⟨S_, .f32⟩
  | 14 => ⟨S64, .f32⟩
  | 15 => ⟨S64x1x1, .f32⟩
  | 16 => ⟨S64x256x256, .f32⟩
  | 17 => ⟨S64x256x256, .f32⟩
  | 18 => ⟨S64x1x256x256, .f32⟩
  | 19 => ⟨S64x256x256, .f32⟩
  | 20 => ⟨S64x256x256, .f32⟩
  | 21 => ⟨S64x256x256, .f32⟩
  | 22 => ⟨S_, .f32⟩
  | 23 => ⟨S64, .f32⟩
  | 24 => ⟨S64x1x1, .f32⟩
  | 25 => ⟨S64x256x256, .f32⟩
  | 26 => ⟨S64x256x256, .f32⟩
  | 27 => ⟨S64x1x256x256, .f32⟩
  | 28 => ⟨S64x256x256, .f32⟩
  | 29 => ⟨S64x256x256, .f32⟩
  | 30 => ⟨S64x256x256, .f32⟩
  | 31 => ⟨S_, .f32⟩
  | 32 => ⟨S64, .f32⟩
  | 33 => ⟨S64x1x1, .f32⟩
  | 34 => ⟨S64x256x256, .f32⟩
  | 35 => ⟨S64x256x256, .f32⟩
  | 36 => ⟨S1x64x256x256, .f32⟩
  | 37 => ⟨S1x64x256x256, .f32⟩
  | 38 => ⟨S1x64x256x256, .f32⟩
  | 39 => ⟨S1x64x256x256, .f32⟩
  | 40 => ⟨S4x64x256x256, .f32⟩
  | 41 => ⟨S256, .f32⟩
  | 42 => ⟨S256x1, .f32⟩
  | 43 => ⟨S256, .f32⟩
  | 44 => ⟨S1x256, .f32⟩
  | 45 => ⟨S256x256, .f32⟩
  | 46 => ⟨S256x256, .f32⟩
  | 47 => ⟨S256x256, .f32⟩
  | 48 => ⟨S1x256x256, .f32⟩
  | 49 => ⟨S64x4x256x256, .f32⟩
  | 50 => ⟨S1x1x256x256, .f32⟩
  | 51 => ⟨S64x4x256x256, .f32⟩
  | 52 => ⟨S64x4x256x256, .f32⟩
  | 53 => ⟨S1x256x256, .f32⟩
  | 54 => ⟨S1x1x256x256, .f32⟩
  | 55 => ⟨S64x4x256x256, .f32⟩
  | 56 => ⟨S64x4x256x256, .f32⟩
  | 57 => ⟨S_, .f32⟩
  | 58 => ⟨S64x4, .f32⟩
  | 59 => ⟨S256x256, .f32⟩
  | 60 => ⟨S1x256x256, .f32⟩
  | 61 => ⟨S64x4x256x256, .f32⟩
  | 62 => ⟨S1x1x256x256, .f32⟩
  | 63 => ⟨S64x4x256x256, .f32⟩
  | 64 => ⟨S64x4x256x256, .f32⟩
  | 65 => ⟨S_, .f32⟩
  | 66 => ⟨S64x4, .f32⟩
  | 67 => ⟨S256x256, .f32⟩
  | 68 => ⟨S_, .f32⟩
  | 69 => ⟨S256x256, .f32⟩
  | 70 => ⟨S256x256, .f32⟩
  | 71 => ⟨S1x256x256, .f32⟩
  | 72 => ⟨S64x4x256x256, .f32⟩
  | 73 => ⟨S1x1x256x256, .f32⟩
  | 74 => ⟨S64x4x256x256, .f32⟩
  | 75 => ⟨S64x4x256x256, .f32⟩
  | 76 => ⟨S_, .f32⟩
  | 77 => ⟨S64x4, .f32⟩
  | 78 => ⟨S4x64x256x256, .f32⟩
  | 79 => ⟨S_, .f32⟩
  | 80 => ⟨S4x64, .f32⟩
  | 81 => ⟨S4x64, .f32⟩
  | 82 => ⟨S1x256x1, .f32⟩
  | 83 => ⟨S64x4x256x256, .f32⟩
  | 84 => ⟨S1x1x256x1, .f32⟩
  | 85 => ⟨S64x4x256x256, .f32⟩
  | 86 => ⟨S64x4x256x256, .f32⟩
  | 87 => ⟨S_, .f32⟩
  | 88 => ⟨S64x4, .f32⟩
  | 89 => ⟨S1x1x256, .f32⟩
  | 90 => ⟨S64x4x256x256, .f32⟩
  | 91 => ⟨S1x1x1x256, .f32⟩
  | 92 => ⟨S64x4x256x256, .f32⟩
  | 93 => ⟨S64x4x256x256, .f32⟩
  | 94 => ⟨S_, .f32⟩
  | 95 => ⟨S64x4, .f32⟩
  | 96 => ⟨S1x256x1, .f32⟩
  | 97 => ⟨S64x4x1x1, .f32⟩
  | 98 => ⟨S1x1x256x1, .f32⟩
  | 99 => ⟨S64x4x256x1, .f32⟩
  | 100 => ⟨S64x4x256x1, .f32⟩
  | 101 => ⟨S64x4x256x1, .f32⟩
  | 102 => ⟨S1x1x256, .f32⟩
  | 103 => ⟨S64x4x1x1, .f32⟩
  | 104 => ⟨S1x1x1x256, .f32⟩
  | 105 => ⟨S64x4x1x256, .f32⟩
  | 106 => ⟨S64x4x1x256, .f32⟩
  | 107 => ⟨S64x4x1x256, .f32⟩
  | 108 => ⟨S64x4x256x256, .f32⟩
  | 109 => ⟨S64x4x256x256, .f32⟩
  | 110 => ⟨S64x4x256x256, .f32⟩
  | 111 => ⟨S64x4x256x256, .f32⟩
  | 112 => ⟨S64x4x256x256, .f32⟩
  | 113 => ⟨S_, .f32⟩
  | 114 => ⟨S64x4, .f32⟩
  | 115 => ⟨S64x4, .f32⟩
  | 116 => ⟨S64x4x256x256, .f32⟩
  | 117 => ⟨S64x4x256x256, .f32⟩
  | 118 => ⟨S64x4x256x256, .f32⟩
  | 119 => ⟨S64x4x256x256, .f32⟩
  | 120 => ⟨S64x4x256x256, .f32⟩
  | 121 => ⟨S_, .f32⟩
  | 122 => ⟨S64x4, .f32⟩
  | 123 => ⟨S64x4, .f32⟩
  | 124 => ⟨S64x4x256x256, .f32⟩
  | 125 => ⟨S64x4x256x256, .f32⟩
  | 126 => ⟨S64x4x256x256, .f32⟩
  | 127 => ⟨S64x4x256x256, .f32⟩
  | _ => ⟨S64x512x512, .i32⟩

abbrev hbmTy0_2 (i : Nat) : BufTy := match i % 128 with
  | 0 => ⟨S64x4x256x256, .f32⟩
  | 1 => ⟨S_, .f32⟩
  | 2 => ⟨S64x4, .f32⟩
  | 3 => ⟨S64x4, .f32⟩
  | 4 => ⟨S_, .f32⟩
  | 5 => ⟨S64x4, .f32⟩
  | 6 => ⟨S64x4, .i1⟩
  | 7 => ⟨S_, .f32⟩
  | 8 => ⟨S64x4, .f32⟩
  | 9 => ⟨S64x4, .f32⟩
  | 10 => ⟨S64x4, .f32⟩
  | 11 => ⟨S_, .f32⟩
  | 12 => ⟨S_, .f32⟩
  | 13 => ⟨S4, .f32⟩
  | 14 => ⟨S64x4, .f32⟩
  | 15 => ⟨S64x4, .f32⟩
  | 16 => ⟨S_, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S_, .f32⟩
  | 39 => ⟨S64, .f32⟩
  | 40 => ⟨S64, .f32⟩
  | 41 => ⟨S1x64, .f32⟩
  | 42 => ⟨S1x64, .f32⟩
  | 43 => ⟨S1x64, .f32⟩
  | 44 => ⟨S1x64, .f32⟩
  | 45 => ⟨S1x64, .f32⟩
  | 46 => ⟨S5x64, .f32⟩
  | 47 => ⟨S64x5, .f32⟩
  | _ => ⟨S64x512x512, .i32⟩

abbrev hbmTy (i : Nat) : BufTy := match i / 128 with
  | 0 => hbmTy0_0 i
  | 1 => hbmTy0_1 i
  | 2 => hbmTy0_2 i
  | _ => ⟨S64x512x512, .i32⟩

abbrev bufTy : (tb : Table) → Fin (tcTables nBuf tb) → BufTy
  | .hbm, ⟨i, _⟩ => hbmTy i
  | _, _ => ⟨S64x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_c_0 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_2 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_c_7 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_9 : Ref sig .tc := ⟨.hbm, 52, rfl⟩
abbrev main_v40 : Ref sig .tc := ⟨.hbm, 53, rfl⟩
abbrev main_v41 : Ref sig .tc := ⟨.hbm, 54, rfl⟩
abbrev main_c_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_11 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_12 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_13 : Ref sig .tc := ⟨.hbm, 71, rfl⟩
abbrev main_v55 : Ref sig .tc := ⟨.hbm, 72, rfl⟩
abbrev main_c_14 : Ref sig .tc := ⟨.hbm, 73, rfl⟩
abbrev main_v56 : Ref sig .tc := ⟨.hbm, 74, rfl⟩
abbrev main_v57 : Ref sig .tc := ⟨.hbm, 75, rfl⟩
abbrev main_c_15 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_16 : Ref sig .tc := ⟨.hbm, 80, rfl⟩
abbrev main_v61 : Ref sig .tc := ⟨.hbm, 81, rfl⟩
abbrev main_v62 : Ref sig .tc := ⟨.hbm, 82, rfl⟩
abbrev main_c_17 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_18 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_19 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_20 : Ref sig .tc := ⟨.hbm, 99, rfl⟩
abbrev main_v76 : Ref sig .tc := ⟨.hbm, 100, rfl⟩
abbrev main_c_21 : Ref sig .tc := ⟨.hbm, 101, rfl⟩
abbrev main_v77 : Ref sig .tc := ⟨.hbm, 102, rfl⟩
abbrev main_v78 : Ref sig .tc := ⟨.hbm, 103, rfl⟩
abbrev main_c_22 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_23 : Ref sig .tc := ⟨.hbm, 108, rfl⟩
abbrev main_v82 : Ref sig .tc := ⟨.hbm, 109, rfl⟩
abbrev main_v83 : Ref sig .tc := ⟨.hbm, 110, rfl⟩
abbrev main_c_24 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_25 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_26 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_27 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_28 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_29 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_30 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_cst_31 : Ref sig .tc := ⟨.hbm, 193, rfl⟩
abbrev main_v159 : Ref sig .tc := ⟨.hbm, 194, rfl⟩
abbrev main_v160 : Ref sig .tc := ⟨.hbm, 195, rfl⟩
abbrev main_cst_32 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_cst_33 : Ref sig .tc := ⟨.hbm, 204, rfl⟩
abbrev main_v168 : Ref sig .tc := ⟨.hbm, 205, rfl⟩
abbrev main_v169 : Ref sig .tc := ⟨.hbm, 206, rfl⟩
abbrev main_cst_34 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_cst_35 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_36 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_cst_37 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_cst_38 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_cst_39 : Ref sig .tc := ⟨.hbm, 257, rfl⟩
abbrev main_v215 : Ref sig .tc := ⟨.hbm, 258, rfl⟩
abbrev main_v216 : Ref sig .tc := ⟨.hbm, 259, rfl⟩
abbrev main_cst_40 : Ref sig .tc := ⟨.hbm, 260, rfl⟩
abbrev main_v217 : Ref sig .tc := ⟨.hbm, 261, rfl⟩
abbrev main_v218 : Ref sig .tc := ⟨.hbm, 262, rfl⟩
abbrev main_cst_41 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_cst_42 : Ref sig .tc := ⟨.hbm, 267, rfl⟩
abbrev main_call0_v0 : Ref sig .tc := ⟨.hbm, 268, rfl⟩
abbrev main_call0_v1 : Ref sig .tc := ⟨.hbm, 269, rfl⟩
abbrev main_call0_v2 : Ref sig .tc := ⟨.hbm, 270, rfl⟩
abbrev main_v222 : Ref sig .tc := ⟨.hbm, 271, rfl⟩
abbrev main_cst_43 : Ref sig .tc := ⟨.hbm, 272, rfl⟩
abbrev main_v223 : Ref sig .tc := ⟨.hbm, 273, rfl⟩
abbrev main_cst_44 : Ref sig .tc := ⟨.hbm, 274, rfl⟩
abbrev main_v224 : Ref sig .tc := ⟨.hbm, 275, rfl⟩
abbrev main_v225 : Ref sig .tc := ⟨.hbm, 276, rfl⟩
abbrev main_cst_45 : Ref sig .tc := ⟨.hbm, 277, rfl⟩
abbrev main_v226 : Ref sig .tc := ⟨.hbm, 278, rfl⟩
abbrev main_cst_46 : Ref sig .tc := ⟨.hbm, 279, rfl⟩
abbrev main_v227 : Ref sig .tc := ⟨.hbm, 280, rfl⟩
abbrev main_v228 : Ref sig .tc := ⟨.hbm, 281, rfl⟩
abbrev main_cst_47 : Ref sig .tc := ⟨.hbm, 282, rfl⟩
abbrev main_v229 : Ref sig .tc := ⟨.hbm, 283, rfl⟩
abbrev main_cst_48 : Ref sig .tc := ⟨.hbm, 284, rfl⟩
abbrev main_v230 : Ref sig .tc := ⟨.hbm, 285, rfl⟩
abbrev main_v231 : Ref sig .tc := ⟨.hbm, 286, rfl⟩
abbrev main_cst_49 : Ref sig .tc := ⟨.hbm, 287, rfl⟩
abbrev main_v232 : Ref sig .tc := ⟨.hbm, 288, rfl⟩
abbrev main_cst_50 : Ref sig .tc := ⟨.hbm, 289, rfl⟩
abbrev main_v233 : Ref sig .tc := ⟨.hbm, 290, rfl⟩
abbrev main_v234 : Ref sig .tc := ⟨.hbm, 291, rfl⟩
abbrev main_cst_51 : Ref sig .tc := ⟨.hbm, 292, rfl⟩
abbrev main_v235 : Ref sig .tc := ⟨.hbm, 293, rfl⟩
abbrev main_cst_52 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩

abbrev nD : Nat := 1
abbrev τ : Topo := Topo.v7x

variable {F : FTy → Type} [FloatOps F]
-- ==== Proof.Array.lean ====
/- What the result array holds after the launch: image `b`'s row of eight numbers is what the last of its sixteen chunks left in the
   output block, and the program's result is the first five of them. -/
module

public import proofs.«01_k».proof.Proof.Gen.KernelIdeal.Frame
public import Idealize.ShloMosaic.Lib.Pipeline.Value
public import Idealize.ShloMosaic.Lib.StableHlo.ReadAt

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Image `b`'s chunk `k` as a grid point. -/
abbrev pt (b : Fin 64) (k : Fin 16) : Fin cfg0.N :=
  ⟨16 * b.val + k.val, lt_of_lt_of_eq (by omega) (show 1024 = cfg0.N from N_0.symm)⟩

/-- The block an image's last chunk leaves, laid out over the whole array. -/
def rows (c : Dev nD) : Buf (Elt F) ((c : Thread nD τ).loc main_v2) := fun (i : S64x1x8.Idx) =>
  (outsAt0 m c (pt (i 0) 15).val (pt (i 0) 15).isLt).1 (ix3 0 0 (i 2))

/-- Which block of the array each grid point's output block is. -/
theorem block_place : ∀ t : Fin cfg0.N, win0_2.index t (0 : Fin 3) = t.val / 16 ∧ win0_2.index t (1 : Fin 3) = 0 ∧ win0_2.index t (2 : Fin 3) = 0 :=
  (by decide +kernel : ∀ t : Fin grid0.N, _)

/-- What a point writes back is its block of `rows`. -/
theorem written (c : Dev nD) (t : Fin cfg0.N) (hf : (cfg0.win 2).flush t = true) :
    (dats m 0 c).flushed 2 t = ((cfg0.win 2).blk t).view.read (Elt F) (rows m c) := by
  show (cfg0.win 2).cut (grid0.coords t) ((dats m 0 c).after 2 t) = _
  rw [after0_2]
  have last : t.val % 16 = 15 := (flush0_2 t).mp hf
  obtain ⟨p0, p1, p2⟩ := block_place t
  have below : t.val < 1024 := lt_of_lt_of_eq t.isLt N_0
  funext y
  have y0 : (y 0).val < 1 := (y 0).isLt
  have y1 : (y 1).val < 1 := (y 1).isLt
  have e0 : (((cfg0.win 2).blk t).view.emb y 0).val = win0_2.index t (0 : Fin 3) * 1 + 1 * (y 0).val := rfl
  have e2 : (((cfg0.win 2).blk t).view.emb y 2).val = win0_2.index t (2 : Fin 3) * 8 + 1 * (y 2).val := rfl
  have hp : t = pt (((cfg0.win 2).blk t).view.emb y 0) 15 := by
    apply Fin.ext
    show t.val = 16 * (((cfg0.win 2).blk t).view.emb y 0).val + 15
    rw [e0, p0]; omega
  have hl : (cfg0.win 2).xinj (grid0.coords t) y = ix3 0 0 (((cfg0.win 2).blk t).view.emb y 2) := by
    funext a; apply Fin.ext
    match a with
    | ⟨0, _⟩ => show (y 0).val = 0; omega
    | ⟨1, _⟩ => show (y 1).val = 0; omega
    | ⟨2, _⟩ => show (y 2).val = (((cfg0.win 2).blk t).view.emb y 2).val; rw [e2, p2]; omega
  show (outsAt0 m c t.val t.isLt).1 ((cfg0.win 2).xinj (grid0.coords t) y) = rows m c (((cfg0.win 2).blk t).view.emb y)
  rw [hl]
  show _ = (outsAt0 m c (pt (((cfg0.win 2).blk t).view.emb y 0) 15).val (pt (((cfg0.win 2).blk t).view.emb y 0) 15).isLt).1 _
  generalize pt (((cfg0.win 2).blk t).view.emb y 0) 15 = s at hp
  subst hp
  rfl

/-- After the launch the output array is `rows`: every place of it is in the block some last chunk writes back. -/
theorem array_end (c : Dev nD) : (dats m 0 c).arrAt 2 cfg0.N = rows m c :=
  (dats m 0 c).arrAt_eq_of_cover 2 _ (fun t hf => written m c t hf) fun i => by
    have i0 : (i 0).val < 64 := (i 0).isLt
    have i1 : (i 1).val < 1 := (i 1).isLt
    have i2 : (i 2).val < 8 := (i 2).isLt
    refine ⟨pt ⟨(i 0).val, i0⟩ 15, (flush0_2 _).mpr (by show (16 * (i 0).val + 15) % 16 = 15; omega), ?_⟩
    obtain ⟨p0, p1, p2⟩ := block_place (pt ⟨(i 0).val, i0⟩ 15)
    have q0 : win0_2.index (pt ⟨(i 0).val, i0⟩ 15) (0 : Fin 3) = (16 * (i 0).val + 15) / 16 := p0
    show i ∈ ((View.whole main_v2).slice (win0_2.rect (pt ⟨(i 0).val, i0⟩ 15))).set
    rw [View.set_slice_whole, Rect.mem_set_unit]
    intro a
    match a with
    | ⟨0, _⟩ =>
      show win0_2.index (pt ⟨(i 0).val, i0⟩ 15) (0 : Fin 3) * 1 ≤ (i 0).val ∧ (i 0).val < win0_2.index (pt ⟨(i 0).val, i0⟩ 15) (0 : Fin 3) * 1 + 1
      omega
    | ⟨1, _⟩ =>
      show win0_2.index (pt ⟨(i 0).val, i0⟩ 15) (1 : Fin 3) * 1 ≤ (i 1).val ∧ (i 1).val < win0_2.index (pt ⟨(i 0).val, i0⟩ 15) (1 : Fin 3) * 1 + 1
      omega
    | ⟨2, _⟩ =>
      show win0_2.index (pt ⟨(i 0).val, i0⟩ 15) (2 : Fin 3) * 8 ≤ (i 2).val ∧ (i 2).val < win0_2.index (pt ⟨(i 0).val, i0⟩ 15) (2 : Fin 3) * 8 + 8
      omega

/-- The program's result as a function of the output array: its first five columns. -/
def firstFive (v : Vec F S64x1x8 .f32) : Vec F S64x5 .f32 :=
  shapeCast S64x5 (extractStridedSlice S64x1x5 ![0, 0, 0] v slices_S64x1x8_S64x1x5_0_0_0) shapeCasts_S64x1x5_S64x5

/-- The run with the result named: the first five columns of `rows`, the argument unchanged. -/
theorem run : θ_run defs (onTc (τ := τ) (main (F := F))) ⟨m, fun _ => 0, ρ⟩ fun r => ∀ c : Dev nD,
      r.2.mem ((c : Thread nD τ).loc main_v4) = firstFive (rows m c)
      ∧ r.2.mem ((c : Thread nD τ).loc main_arg0) = m ((c : Thread nD τ).loc main_arg0) := by
  refine (θ_run defs _ _).mono (fun r h c => ⟨?_, h.2 c⟩) (θ_run_and (run_main m ρ) (unchanged m ρ))
  refine ((h.1 c).2 main_v4 (Pipeline.mem_restRefs_of main_v4 (by decide) (by decide))).trans ?_
  have e : Pipeline.withArrays spec0 c (V0 m c) (fun w => (dats m 0 c).arrAt w cfg0.N) (Proc.devRef .tc main_v2) = rows m c :=
    ((dats m 0 c).withArrays_arrAt (by decide) (V0 m c) (A_eq m c) 2).trans (array_end m c)
  unfold Pipeline.afterTail₀
  generalize Pipeline.withArrays spec0 c (V0 m c) (fun w => (dats m 0 c).arrAt w cfg0.N) = W at e
  rw [← e]
  simp only [List.flatten_cons, List.flatten_nil, List.append_nil]
  after_results
  rfl

end Cert.KernelIdeal.Hand

end
-- ==== Proof.Point.lean ====
/- What one grid point computes, written as one expression: the counts after the chunk, and the row of features made of them. -/
module

public import proofs.«01_k».proof.Proof.Gen.KernelIdeal.Frame
public import Idealize.ShloMosaic.Lib.Pipeline.Value
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem

variable {F : FTy → Type} [FloatOps F]

/-- The four counts after one more chunk: the previous counts plus the products of the one-hot rows of the chunk's two staged blocks. -/
def counted (i : grid0.Coords) (v3 v5 : Vec F S1x1x1x16384 .i32) (acc : Vec F S256x1024 .f32) : Vec F S256x1024 .f32 :=
  k0_pay1 (k0_pay71 v3 v5) (iota .tc S256x16384 32 [0] iota_S256x16384_d0_w32) (k0_pay74 v3 v5)
    (k0_pay75 (F := F) (k0_pay70 v3 v5) (iota .tc S1x16384 32 [1] iota_S1x16384_d1_w32) k0_pay72 (k0_pay73 i) (iota .tc S256x16384 32 [0] iota_S256x16384_d0_w32))
    (k0_pay76 (F := F) (k0_pay70 v3 v5) (iota .tc S1x16384 32 [1] iota_S1x16384_d1_w32) (k0_pay73 i) (iota .tc S256x16384 32 [0] iota_S256x16384_d0_w32))
    (k0_pay77 (k0_pay70 v3 v5) (iota .tc S1x16384 32 [1] iota_S1x16384_d1_w32) k0_pay72 (k0_pay73 i)) acc

/-- The row of eight numbers made of the four tables of counts. -/
def featureRow (a b d e : Vec F S256x256 .f32) : Vec F S1x1x8 .f32 :=
  have i1 : FVec F S256x256 .f32 := k0_pay3
  have i2 : FVec F S256x256 .f32 := k0_pay4
  have sq : FVec F S256x256 .f32 := k0_pay6
  have ab : FVec F S256x256 .f32 := k0_pay7
  have hm : FVec F S256x256 .f32 := k0_pay8
  have ey : FVec F S256x256 .f32 := k0_pay9
  have ta := k0_pay15 a
  have tb := k0_pay30 b
  have td := k0_pay43 d
  have te := k0_pay57 e
  k0_pay2
    (k0_pay52 (k0_pay37 (k0_pay25 k0_pay10 (k0_pay16 a)) (k0_pay32 tb (k0_pay31 sq b))) (k0_pay51 (k0_pay44 sq d)))
    (k0_pay53 (k0_pay38 (k0_pay26 k0_pay11 (k0_pay18 ta (k0_pay17 a) (Scalar.ofBits .f32 0x40000000#32))) (k0_pay33 ab b tb)) (k0_pay45 ab d))
    (k0_pay54 (k0_pay39 (k0_pay27 k0_pay12 (k0_pay19 hm a ta)) (k0_pay34 hm b tb)) (k0_pay46 hm d))
    (k0_pay55 (k0_pay40 (k0_pay28 k0_pay13 (k0_pay20 ey a ta)) (k0_pay35 ey b tb)) (k0_pay49 td (k0_pay47 d) (k0_pay48 ey d)))
    (k0_pay56 (k0_pay42 (k0_pay29 k0_pay14 a ta (k0_pay22 i1 i2 a ta) (k0_pay23 i1 i2 a ta) (k0_pay24 i1 i2 a ta)) (k0_pay41 i1 i2 b tb (k0_pay36 i1 i2 b)))
      (k0_pay50 i1 i2 d td))
    te (k0_pay58 sq e) (k0_pay59 ab e) (k0_pay62 te (k0_pay60 hm e) k0_pay61) (k0_pay63 ey e te) (k0_pay67 i1 i2 e te) (k0_pay68 i1 i2 e te)
    (Scalar.ofBits .f32 0x40000000#32)

/-- One of the four tables inside the wide one: its 256 columns from column `o` on. -/
def table (o : Nat) (inb : ∀ a : Fin 2, (![0, o] : Fin 2 → Nat) a + S256x256.size a ≤ S256x1024.size a) (h : Vec F S256x1024 .f32) : Vec F S256x256 .f32 :=
  View.ld h (Rect.unit (s := S256x1024) ![0, o] S256x256.size inb)

/-- Two zero offsets are the zero offset. -/
theorem zero2 : (![0, 0] : Fin 2 → Nat) = fun _ => 0 := by decide
/-- Three zero offsets are the zero offset. -/
theorem zero3 : (![0, 0, 0] : Fin 3 → Nat) = fun _ => 0 := by decide
/-- Four zero offsets are the zero offset. -/
theorem zero4 : (![0, 0, 0, 0] : Fin 4 → Nat) = fun _ => 0 := by decide

/-- A middle chunk leaves the previous counts plus its own. -/
theorem sout_B (c : Dev nD) (i : grid0.Coords) (arg2 : Memref sig .tc .vmem S1x1x1x16384 .i32) (harg2 : arg2.IsWhole) (arg3 : Memref sig .tc .vmem S1x1x1x16384 .i32) (harg3 : arg3.IsWhole) (arg4 : Memref sig .tc .vmem S1x1x8 .f32) (harg4 : arg4.IsWhole) (arg5 : Memref sig .tc .vmem S256x1024 .f32) (harg5 : arg5.IsWhole) (hc0 : ¬cond0_0 i) (hc1 : ¬cond0_1 i)
    (x0 x1 : Vec F S1x1x1x16384 .i32) (xs : Vec F S256x1024 .f32) :
    sout0_B_0 c i arg2 harg2 arg3 harg3 arg4 harg4 arg5 harg5 hc0 hc1 x0 x1 xs = counted i x0 x1 xs := by
  unfold sout0_B_0
  rw [View.read_writes_eq_canon _ _ _ (scover0_B_0 c i arg2 harg2 arg3 harg3 arg4 harg4 arg5 harg5 hc0 hc1 x0 x1 xs)]
  unfold kernelRun0_B
  dsimp only
  sl_unfold_words
  rw [View.canon_unit_zero zero2]
  simp only [View.readAt_eq_ld, harg2.read_unread, harg3.read_unread, harg5.read_unread, View.ld_unit_zero (S := S256x1024) zero2, View.ld_unit_zero (S := S1x1x1x16384) zero4, shapeCast_self]
  rfl

/-- A first chunk leaves its own counts over zero. -/
theorem sout_A (c : Dev nD) (i : grid0.Coords) (arg2 : Memref sig .tc .vmem S1x1x1x16384 .i32) (harg2 : arg2.IsWhole) (arg3 : Memref sig .tc .vmem S1x1x1x16384 .i32) (harg3 : arg3.IsWhole) (arg4 : Memref sig .tc .vmem S1x1x8 .f32) (harg4 : arg4.IsWhole) (arg5 : Memref sig .tc .vmem S256x1024 .f32) (harg5 : arg5.IsWhole) (hc0 : cond0_0 i) (hc1 : ¬cond0_1 i)
    (x0 x1 : Vec F S1x1x1x16384 .i32) :
    sout0_A_0 c i arg2 harg2 arg3 harg3 arg4 harg4 arg5 harg5 hc0 hc1 x0 x1 = counted i x0 x1 k0_pay69 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S256x1024) zero2]
  simp only [View.readAt_eq_ld, harg2.read_unread, harg3.read_unread, View.readCov_unit_zero (S := S256x1024) _ zero2, View.ld_unit_zero (S := S1x1x1x16384) zero4, shapeCast_self]
  rfl

/-- A last chunk leaves the previous counts plus its own. -/
theorem sout_C (c : Dev nD) (i : grid0.Coords) (arg2 : Memref sig .tc .vmem S1x1x1x16384 .i32) (harg2 : arg2.IsWhole) (arg3 : Memref sig .tc .vmem S1x1x1x16384 .i32) (harg3 : arg3.IsWhole) (arg4 : Memref sig .tc .vmem S1x1x8 .f32) (harg4 : arg4.IsWhole) (arg5 : Memref sig .tc .vmem S256x1024 .f32) (harg5 : arg5.IsWhole) (hc0 : ¬cond0_0 i) (hc1 : cond0_1 i)
    (x0 x1 : Vec F S1x1x1x16384 .i32) (xs : Vec F S256x1024 .f32) :
    sout0_C_0 c i arg2 harg2 arg3 harg3 arg4 harg4 arg5 harg5 hc0 hc1 x0 x1 xs = counted i x0 x1 xs := by
  unfold sout0_C_0
  rw [View.read_writes_eq_canon _ _ _ (scover0_C_0 c i arg2 harg2 arg3 harg3 arg4 harg4 arg5 harg5 hc0 hc1 x0 x1 xs)]
  unfold kernelRun0_C
  dsimp only
  sl_unfold_words
  rw [View.canon_unit_zero zero2]
  simp only [View.readAt_eq_ld, harg2.read_unread, harg3.read_unread, harg5.read_unread, View.ld_unit_zero (S := S256x1024) zero2, View.ld_unit_zero (S := S1x1x1x16384) zero4, shapeCast_self]
  rfl

/-- A last chunk leaves in the output block the features of the counts it ends with. -/
theorem out_C (c : Dev nD) (i : grid0.Coords) (arg2 : Memref sig .tc .vmem S1x1x1x16384 .i32) (harg2 : arg2.IsWhole) (arg3 : Memref sig .tc .vmem S1x1x1x16384 .i32) (harg3 : arg3.IsWhole) (arg4 : Memref sig .tc .vmem S1x1x8 .f32) (harg4 : arg4.IsWhole) (arg5 : Memref sig .tc .vmem S256x1024 .f32) (harg5 : arg5.IsWhole) (hc0 : ¬cond0_0 i) (hc1 : cond0_1 i)
    (x0 x1 : Vec F S1x1x1x16384 .i32) (xs : Vec F S256x1024 .f32) :
    out0_C_2 c i arg2 harg2 arg3 harg3 arg4 harg4 arg5 harg5 hc0 hc1 x0 x1 xs
      = featureRow (table 0 inb_S256x1024_S256x256_0_0 (counted i x0 x1 xs)) (table 256 inb_S256x1024_S256x256_0_256 (counted i x0 x1 xs))
          (table 512 inb_S256x1024_S256x256_0_512 (counted i x0 x1 xs)) (table 768 inb_S256x1024_S256x256_0_768 (counted i x0 x1 xs)) := by
  unfold out0_C_2
  rw [View.read_writes_eq_canon _ _ _ (cover0_C_2 c i arg2 harg2 arg3 harg3 arg4 harg4 arg5 harg5 hc0 hc1 x0 x1 xs)]
  unfold kernelRun0_C
  dsimp only
  sl_unfold_words
  rw [View.canon_unit_zero zero3]
  simp only [View.readAt_eq_ld, harg2.read_unread, harg3.read_unread, harg5.read_unread, View.ld_unit_zero (S := S256x1024) zero2, View.ld_unit_zero (S := S1x1x1x16384) zero4, shapeCast_self]
  change featureRow (arg5.view.readCov [⟨Rect.unit ![0, 0] S256x1024.size _, counted i x0 x1 xs⟩] (Rect.unit (s := S256x1024) ![0, 0] S256x256.size inb_S256x1024_S256x256_0_0).toLoadRect)
    (arg5.view.readCov [⟨Rect.unit ![0, 0] S256x1024.size _, counted i x0 x1 xs⟩] (Rect.unit (s := S256x1024) ![0, 256] S256x256.size inb_S256x1024_S256x256_0_256).toLoadRect)
    (arg5.view.readCov [⟨Rect.unit ![0, 0] S256x1024.size _, counted i x0 x1 xs⟩] (Rect.unit (s := S256x1024) ![0, 512] S256x256.size inb_S256x1024_S256x256_0_512).toLoadRect)
    (arg5.view.readCov [⟨Rect.unit ![0, 0] S256x1024.size _, counted i x0 x1 xs⟩] (Rect.unit (s := S256x1024) ![0, 768] S256x256.size inb_S256x1024_S256x256_0_768).toLoadRect) = _
  generalize counted i x0 x1 xs = h
  have off0 : ∀ a : Fin S256x1024.rank, (![0, 0] : Fin 2 → Nat) a = 0 := fun a => congrFun zero2 a
  rw [View.readCov_fill (s := S256x1024) arg5.view _ h [] _ off0, View.readCov_fill (s := S256x1024) arg5.view _ h [] _ off0,
    View.readCov_fill (s := S256x1024) arg5.view _ h [] _ off0, View.readCov_fill (s := S256x1024) arg5.view _ h [] _ off0]
  rfl

end Cert.KernelIdeal.Hand

end
-- ==== Proof.Tally.lean ====
/- The counts of pairs of grey levels, over the pixels of one image in row-major order. -/
module

public import Idealize.ShloMosaic.Lib.Pointwise
public import Idealize.ShloMosaic.Lib.WordCmp

@[expose] public section

noncomputable section

namespace Cert.Glcm

open Idealize.ShloMosaic Idealize.ShloMosaic.WordCmp

/-- How far on, in row-major order, the partner of a pixel lies, for each of the four directions. -/
def ahead : Fin 4 → ℕ := ![1, 513, 512, 511]

/-- Whether the pixel at position `q` has a partner inside the image, for each of the four directions. -/
def inside (k : Fin 4) (q : ℕ) : Prop :=
  match k with
  | 0 => q % 512 < 511
  | 1 => q / 512 < 511 ∧ q % 512 < 511
  | 2 => q / 512 < 511
  | 3 => q / 512 < 511 ∧ 1 ≤ q % 512

instance (k : Fin 4) (q : ℕ) : Decidable (inside k q) := by
  unfold inside; split <;> infer_instance

/-- The images' shape. -/
abbrev Images : Shape := ⟨3, ![64, 512, 512]⟩

/-- Image `b`'s word at position `q` in row-major order; zero beyond its end. -/
def imageWord (x : IVec Images 32) (b : Fin 64) (q : ℕ) : BitVec 32 :=
  if h : q < 262144 then x (ix3 b ⟨q / 512, by omega⟩ ⟨q % 512, by omega⟩) else 0#32

/-- A pixel of an image is the word at its position. -/
theorem imageWord_at (x : IVec Images 32) (b : Fin 64) (r c : Fin 512) (q : ℕ) (h : q = 512 * r.val + c.val) :
    x (ix3 b r c) = imageWord x b q := by
  subst h
  unfold imageWord
  rw [dif_pos (by omega)]
  exact congrArg x (congrArg₂ (ix3 b) (Fin.ext (by show r.val = _ / 512; omega)) (Fin.ext (by show c.val = _ % 512; omega)))

/-- Past its end an image has zeros. -/
theorem imageWord_past (x : IVec Images 32) (b : Fin 64) (q : ℕ) (h : ¬ q < 262144) : imageWord x b q = 0#32 := dif_neg h

/-- 1 where the pixel at `q` has level `i` and its partner in direction `k` has level `j`, else 0. -/
def hit (k : Fin 4) (w : ℕ → BitVec 32) (i j q : ℕ) : ℕ :=
  if inside k q ∧ w q = BitVec.ofNat 32 i ∧ w (q + ahead k) = BitVec.ofNat 32 j then 1 else 0

/-- How many of the first `n` pixels have level `i` and a partner of level `j`. -/
def tally (k : Fin 4) (w : ℕ → BitVec 32) (i j n : ℕ) : ℕ := ∑ q ∈ Finset.range n, hit k w i j q

/-- The count over the first `n` pixels and the one over the next `s` make the count over `n + s`. -/
theorem tally_add (k : Fin 4) (w : ℕ → BitVec 32) (i j n s : ℕ) :
    tally k w i j (n + s) = tally k w i j n + ∑ q ∈ Finset.range s, hit k w i j (n + q) := by
  unfold tally; exact Finset.sum_range_add _ n s

/-- A sum cut in two stretches, in the extended reals, is the cast of the whole sum. -/
theorem stretches (f : ℕ → ℕ) (n s t : ℕ) (h : n + s = t) :
    (∑ x : Fin n, ((f x.val : ℕ) : EReal)) + ∑ x : Fin s, ((f (n + x.val) : ℕ) : EReal)
      = ((∑ q ∈ Finset.range t, f q : ℕ) : EReal) := by
  subst h
  rw [Finset.sum_range_add, Nat.cast_add, Nat.cast_sum, Nat.cast_sum,
    Finset.sum_range (fun x => ((f x : ℕ) : EReal)), Finset.sum_range (fun x => ((f (n + x) : ℕ) : EReal))]

/-- The product of the two indicators at one pixel, as the kernel's masked selections spell it. -/
theorem indicator (P : Prop) [Decidable P] (a l : ℕ) (hl : l < 256) (u v : BitVec 32) (g : BitVec 1)
    (hg : g = BitVec.ofBool (decide P)) :
    Scalar.select (IntOp.cmpi CmpIPredicate.eq (BitVec.ofNat 32 l) (Scalar.select g v 263#32))
        (Scalar.select (IntOp.cmpi CmpIPredicate.eq (BitVec.ofNat 32 a) u) (1 : EReal) 0) 0
      = (((if P ∧ u = BitVec.ofNat 32 a ∧ v = BitVec.ofNat 32 l then 1 else 0 : ℕ)) : EReal) := by
  subst hg
  have hne : ¬ (BitVec.ofNat 32 l = 263#32) := by
    intro h
    have := congrArg BitVec.toNat h
    simp only [BitVec.toNat_ofNat] at this
    omega
  rw [cmpi_eq_eq, cmpi_eq_eq]
  by_cases hP : P
  · by_cases h1 : BitVec.ofNat 32 a = u <;> by_cases h2 : BitVec.ofNat 32 l = v
    · subst h1 h2; simp [Scalar.select, hP]
    · have h2' : ¬ v = BitVec.ofNat 32 l := fun e => h2 e.symm
      simp [Scalar.select, hP, h2, h2']
    · have h1' : ¬ u = BitVec.ofNat 32 a := fun e => h1 e.symm
      simp [Scalar.select, hP, h1, h1']
    · have h1' : ¬ u = BitVec.ofNat 32 a := fun e => h1 e.symm
      simp [Scalar.select, hP, h1, h1']
  · simp [Scalar.select, hP, hne]

/-- The low nine bits of a lane's number, as a number. -/
theorem low_bits (x : ℕ) (hx : x < 16384) : IntOp.andi (BitVec.ofNat 32 x) 511#32 = BitVec.ofNat 32 (x % 512) := by
  apply BitVec.eq_of_toNat_eq
  have h : (x % 2 ^ 32) &&& (2 ^ 9 - 1) = (x % 2 ^ 32) % 2 ^ 9 := Nat.and_two_pow_sub_one_eq_mod _ 9
  simp only [IntOp.andi, BitVec.toNat_and, BitVec.toNat_ofNat]
  norm_num at h ⊢
  omega

/-- The other bits of a lane's number, as a number. -/
theorem high_bits (x : ℕ) (hx : x < 16384) :
    IntOp.shrui ArithUnit.vector (BitVec.ofNat 32 x) 9#32 = BitVec.ofNat 32 (x / 512) := by
  apply BitVec.eq_of_toNat_eq
  have h : (x % 2 ^ 32) >>> 9 = (x % 2 ^ 32) / 2 ^ 9 := Nat.shiftRight_eq_div_pow _ 9
  have h9 : (9#32 : BitVec 32).toNat = 9 := rfl
  simp only [IntOp.shrui, h9, BitVec.ushiftRight_eq', BitVec.toNat_ushiftRight, BitVec.toNat_ofNat, h]
  simp only [show (9 : ℕ) < 32 from by norm_num, if_true, BitVec.ushiftRight_eq', BitVec.toNat_ushiftRight, BitVec.toNat_ofNat, h9, h]
  omega

/-- A comparison of two small numbers held as words. -/
theorem small_lt (x n : ℕ) (hx : x < 2 ^ 31) (hn : n < 2 ^ 31) :
    IntOp.cmpi CmpIPredicate.slt (BitVec.ofNat 32 x) (BitVec.ofNat 32 n) = BitVec.ofBool (decide (x < n)) :=
  cmpi_slt_ofNat hx hn

/-- Another comparison of two small numbers held as words. -/
theorem small_ge (x n : ℕ) (hx : x < 2 ^ 31) (hn : n < 2 ^ 31) :
    IntOp.cmpi CmpIPredicate.sge (BitVec.ofNat 32 x) (BitVec.ofNat 32 n) = BitVec.ofBool (decide (n ≤ x)) :=
  cmpi_sge_ofNat hx hn

/-- The lane's column lies left of the last one. -/
theorem column_lt (x c : ℕ) (hx : x < 16384) :
    IntOp.cmpi CmpIPredicate.slt (IntOp.andi (BitVec.ofNat 32 x) 511#32) 511#32
      = BitVec.ofBool (decide ((16384 * c + x) % 512 < 511)) := by
  rw [low_bits x hx, small_lt _ _ (by omega) (by omega), show (16384 * c + x) % 512 = x % 512 from by omega]

/-- The lane's column is not the first one. -/
theorem column_ge (x c : ℕ) (hx : x < 16384) :
    IntOp.cmpi CmpIPredicate.sge (IntOp.andi (BitVec.ofNat 32 x) 511#32) 1#32
      = BitVec.ofBool (decide (1 ≤ (16384 * c + x) % 512)) := by
  rw [low_bits x hx, small_ge _ _ (by omega) (by omega), show (16384 * c + x) % 512 = x % 512 from by omega]

/-- The lane's row lies above the last one. -/
theorem row_lt (x c : ℕ) (hx : x < 16384) (hc : c < 16) :
    IntOp.cmpi CmpIPredicate.slt
        (IntOp.addi (Scalar.muli (BitVec.ofNat 32 c) 32#32) (IntOp.shrui ArithUnit.vector (BitVec.ofNat 32 x) 9#32)) 511#32
      = BitVec.ofBool (decide ((16384 * c + x) / 512 < 511)) := by
  have h : IntOp.addi (Scalar.muli (BitVec.ofNat 32 c) 32#32) (BitVec.ofNat 32 (x / 512))
      = BitVec.ofNat 32 ((16384 * c + x) / 512) := by
    apply BitVec.eq_of_toNat_eq
    simp only [IntOp.addi, Scalar.muli, IntOp.muli, BitVec.toNat_add, BitVec.toNat_mul, BitVec.toNat_ofNat]
    omega
  rw [high_bits x hx, h, small_lt _ _ (by omega) (by omega)]

/-- Two conditions at once. -/
theorem both (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

end Cert.Glcm

end
-- ==== Proof.Chunk.lean ====
/- What one chunk adds to the counts: entry `(a, 256 k + l)` grows by the number of the chunk's pixels of level `a`
   whose partner in direction `k` has level `l`. -/
module

public import proofs.«01_k».proof.Proof.Point
public import proofs.«01_k».proof.Proof.Tally

@[expose] public section

set_option maxRecDepth 16384

noncomputable section

namespace Cert.KernelIdeal.Hand

open Cert.KernelIdeal Cert.KernelIdeal.Gen Cert.Glcm Idealize.ShloMosaic Idealize.ShloMosaic.TcCoe Idealize.SL.Sem

/-- The image's words read by one chunk and by the next one. -/
structure Reads (w : ℕ → BitVec 32) (c : ℕ) (v3 v5 : Vec Ideal S1x1x1x16384 .i32) : Prop where
  here : ∀ p : Fin 16384, v3 (ix4 0 0 0 p) = w (16384 * c + p.val)
  next : ∀ p : Fin 16384, v5 (ix4 0 0 0 p) = w (16384 * c + (16384 + p.val))

/-- The choice between this chunk and the next one, taken on the lane: this chunk. -/
theorem pick_here {α : Type} (x n : ℕ) (hx : x < n) (hn : n < 16384) (u v : α) :
    Scalar.select (IntOp.cmpi CmpIPredicate.slt (BitVec.ofNat 32 x) (BitVec.ofNat 32 n)) u v = u := by
  rw [small_lt _ _ (by omega) (by omega), decide_eq_true hx]; rfl

/-- The choice between this chunk and the next one, taken on the lane: the next chunk. -/
theorem pick_next {α : Type} (x n : ℕ) (hx : n ≤ x) (hn : n < 16384) (hx' : x < 16384) (u v : α) :
    Scalar.select (IntOp.cmpi CmpIPredicate.slt (BitVec.ofNat 32 x) (BitVec.ofNat 32 n)) u v = v := by
  rw [small_lt _ _ (by omega) (by omega), decide_eq_false (by omega)]; rfl

/-- One pixel's term, its words and its mask known. -/
theorem term (k : Fin 4) (w : ℕ → BitVec 32) (a l q r : ℕ) (hl : l < 256) (u v : BitVec 32) (g : BitVec 1)
    (hu : u = w q) (hv : v = w r) (hr : r = q + ahead k) (hg : g = BitVec.ofBool (decide (inside k q))) :
    Scalar.select (IntOp.cmpi CmpIPredicate.eq (BitVec.ofNat 32 l) (Scalar.select g v 263#32))
        (Scalar.select (IntOp.cmpi CmpIPredicate.eq (BitVec.ofNat 32 a) u) (1 : EReal) 0) 0
      = ((hit k w a l q : ℕ) : EReal) := by
  subst hu hv hr
  exact indicator (inside k q) a l hl (w q) (w (q + ahead k)) g hg

/-- The two indicators of a product may be read in either order. -/
theorem either_order (g h : BitVec 1) :
    Scalar.select g (Scalar.select h (1 : EReal) 0) 0 = Scalar.select h (Scalar.select g (1 : EReal) 0) 0 := by
  unfold Scalar.select; split_ifs <;> rfl

/-- Two pairs of sums agree when their terms do. -/
theorem two_sums {n s : ℕ} (A : EReal) {f f' : Fin n → EReal} {g g' : Fin s → EReal} (hf : ∀ x, f x = f' x) (hg : ∀ x, g x = g' x) :
    A + (∑ x, f x + ∑ x, g x) = A + (∑ x, f' x + ∑ x, g' x) := by
  rw [funext hf, funext hg]

variable {w : ℕ → BitVec 32} {i : grid0.Coords} {v3 v5 : Vec Ideal S1x1x1x16384 .i32}

/-- The table of the first direction. -/
theorem counted_0 (h : Reads w (i 1).val v3 v5) (acc : Vec Ideal S256x1024 .f32) (a : Fin 256) (l : Fin 256) :
    counted i v3 v5 acc (ix2 a ⟨l.val, by omega⟩)
      = acc (ix2 a ⟨l.val, by omega⟩) + ((∑ q ∈ Finset.range 16384, hit 0 w a l (16384 * (i 1).val + q) : ℕ) : EReal) := by
  pointwise [counted, k0_pay1, k0_pay71, k0_pay74, k0_pay70, k0_pay72]
  rw [← stretches (fun q => hit 0 w a l (16384 * (i 1).val + q)) 16383 1 16384 rfl]
  refine two_sums _ (fun x => ?_) (fun x => ?_)
  · have hx := x.isLt
    rw [pick_here x.val 16383 hx (by omega)]
    exact term 0 w a l _ (16384 * (i 1).val + (1 + x.val)) l.isLt _ _ _ (h.here ⟨x.val, by omega⟩) (h.here _) (by simp [ahead]; omega)
      (column_lt _ _ (by omega))
  · have hx : x.val = 0 := by omega
    rw [hx]
    rw [pick_next 16383 16383 le_rfl (by omega) (by omega)]
    exact term 0 w a l _ (16384 * (i 1).val + (16384 + 0)) l.isLt _ _ _ (h.here _) (h.next _) (by simp [ahead])
      (column_lt 16383 _ (by omega))

/-- The table of the second direction. -/
theorem counted_1 (h : Reads w (i 1).val v3 v5) (acc : Vec Ideal S256x1024 .f32) (a : Fin 256) (l : Fin 256) :
    counted i v3 v5 acc (ix2 a ⟨256 + l.val, by omega⟩)
      = acc (ix2 a ⟨256 + l.val, by omega⟩) + ((∑ q ∈ Finset.range 16384, hit 1 w a l (16384 * (i 1).val + q) : ℕ) : EReal) := by
  have hc : (i 1).val < 16 := (i 1).isLt
  pointwise [counted, k0_pay1, k0_pay71, k0_pay75, k0_pay70, k0_pay72, k0_pay73]
  rw [← stretches (fun q => hit 1 w a l (16384 * (i 1).val + q)) 15871 513 16384 rfl]
  refine two_sums _ (fun x => ?_) (fun x => ?_)
  · have hx := x.isLt
    rw [pick_here x.val 15871 hx (by omega), row_lt _ _ (by omega) hc, column_lt x.val (i 1).val (by omega), both]
    exact term 1 w a l (16384 * (i 1).val + x.val) (16384 * (i 1).val + (513 + x.val)) l.isLt _ _ _ (h.here ⟨x.val, by omega⟩)
      (h.here ⟨513 + x.val, by omega⟩) (by simp [ahead]; omega) rfl
  · have hx := x.isLt
    rw [pick_next (15871 + x.val) 15871 (by omega) (by omega) (by omega), row_lt _ _ (by omega) hc,
      column_lt (15871 + x.val) (i 1).val (by omega), both]
    exact term 1 w a l (16384 * (i 1).val + (15871 + x.val)) (16384 * (i 1).val + (16384 + x.val)) l.isLt _ _ _
      (h.here ⟨15871 + x.val, by omega⟩) (h.next ⟨x.val, by omega⟩) (by simp [ahead]; omega) rfl

/-- The table of the third direction. -/
theorem counted_2 (h : Reads w (i 1).val v3 v5) (acc : Vec Ideal S256x1024 .f32) (a : Fin 256) (l : Fin 256) :
    counted i v3 v5 acc (ix2 a ⟨512 + l.val, by omega⟩)
      = acc (ix2 a ⟨512 + l.val, by omega⟩) + ((∑ q ∈ Finset.range 16384, hit 2 w a l (16384 * (i 1).val + q) : ℕ) : EReal) := by
  have hc : (i 1).val < 16 := (i 1).isLt
  pointwise [counted, k0_pay1, k0_pay71, k0_pay76, k0_pay70, k0_pay72, k0_pay73]
  rw [← stretches (fun q => hit 2 w a l (16384 * (i 1).val + q)) 15872 512 16384 rfl]
  refine two_sums _ (fun x => ?_) (fun x => ?_)
  · have hx := x.isLt
    rw [pick_here x.val 15872 hx (by omega), row_lt _ _ (by omega) hc]
    simp only [dif_neg (show ¬ 512 + l.val < 256 from by omega), dif_neg (show ¬ 512 + l.val - 256 < 256 from by omega), show 512 + l.val - 256 - 256 = l.val from by omega, dif_pos l.isLt]
    rw [either_order]
    exact term 2 w a l (16384 * (i 1).val + x.val) (16384 * (i 1).val + (512 + x.val)) l.isLt _ _ _ (h.here ⟨x.val, by omega⟩)
      (h.here ⟨512 + x.val, by omega⟩) (by simp [ahead]; omega) rfl
  · have hx := x.isLt
    rw [pick_next (15872 + x.val) 15872 (by omega) (by omega) (by omega), row_lt _ _ (by omega) hc]
    simp only [dif_neg (show ¬ 512 + l.val < 256 from by omega), dif_neg (show ¬ 512 + l.val - 256 < 256 from by omega), show 512 + l.val - 256 - 256 = l.val from by omega, dif_pos l.isLt]
    rw [either_order]
    exact term 2 w a l (16384 * (i 1).val + (15872 + x.val)) (16384 * (i 1).val + (16384 + x.val)) l.isLt _ _ _
      (h.here ⟨15872 + x.val, by omega⟩) (h.next ⟨x.val, by omega⟩) (by simp [ahead]; omega) rfl

/-- The table of the fourth direction. -/
theorem counted_3 (h : Reads w (i 1).val v3 v5) (acc : Vec Ideal S256x1024 .f32) (a : Fin 256) (l : Fin 256) :
    counted i v3 v5 acc (ix2 a ⟨768 + l.val, by omega⟩)
      = acc (ix2 a ⟨768 + l.val, by omega⟩) + ((∑ q ∈ Finset.range 16384, hit 3 w a l (16384 * (i 1).val + q) : ℕ) : EReal) := by
  have hc : (i 1).val < 16 := (i 1).isLt
  pointwise [counted, k0_pay1, k0_pay71, k0_pay77, k0_pay70, k0_pay72, k0_pay73]
  rw [← stretches (fun q => hit 3 w a l (16384 * (i 1).val + q)) 15873 511 16384 rfl]
  refine two_sums _ (fun x => ?_) (fun x => ?_)
  · have hx := x.isLt
    rw [pick_here x.val 15873 hx (by omega), row_lt _ _ (by omega) hc, column_ge x.val (i 1).val (by omega), both]
    simp only [dif_neg (show ¬ 768 + l.val < 256 from by omega), dif_neg (show ¬ 768 + l.val - 256 < 256 from by omega), dif_neg (show ¬ 768 + l.val - 256 - 256 < 256 from by omega), show 768 + l.val - 256 - 256 - 256 = l.val from by omega]
    rw [either_order]
    exact term 3 w a l (16384 * (i 1).val + x.val) (16384 * (i 1).val + (511 + x.val)) l.isLt _ _ _ (h.here ⟨x.val, by omega⟩)
      (h.here ⟨511 + x.val, by omega⟩) (by simp [ahead]; omega) rfl
  · have hx := x.isLt
    rw [pick_next (15873 + x.val) 15873 (by omega) (by omega) (by omega), row_lt _ _ (by omega) hc,
      column_ge (15873 + x.val) (i 1).val (by omega), both]
    simp only [dif_neg (show ¬ 768 + l.val < 256 from by omega), dif_neg (show ¬ 768 + l.val - 256 < 256 from by omega), dif_neg (show ¬ 768 + l.val - 256 - 256 < 256 from by omega), show 768 + l.val - 256 - 256 - 256 = l.val from by omega]
    rw [either_order]
    exact term 3 w a l (16384 * (i 1).val + (15873 + x.val)) (16384 * (i 1).val + (16384 + x.val)) l.isLt _ _ _
      (h.here ⟨15873 + x.val, by omega⟩) (h.next ⟨x.val, by omega⟩) (by simp [ahead]; omega) rfl

end Cert.KernelIdeal.Hand

end
-- ==== Proof.Blocks.lean ====
/- What each grid point is handed: the words of one chunk of one image, and those of the chunk after it. -/
module

public import proofs.«01_k».proof.Proof.Array
public import proofs.«01_k».proof.Proof.Chunk
public import Idealize.ShloMosaic.Lib.StableHlo.ReadAt

@[expose] public section

set_option maxRecDepth 16384

noncomputable section

namespace Cert.KernelIdeal.Hand

open Cert.KernelIdeal Cert.KernelIdeal.Gen Cert.Glcm Idealize.ShloMosaic Idealize.ShloMosaic.TcCoe Idealize.SL.Sem

variable (m : (ℓ : Loc nD τ sig) → Buf (Elt Ideal) ℓ)

/-- The images as launched. -/
abbrev images (c : Dev nD) : Vec Ideal S64x512x512 .i32 := m ((c : Thread nD τ).loc main_arg0)

/-- The padded images the launch finds, read at a chunk and a lane. -/
theorem padded (c : Dev nD) (b : Fin 64) (k : Fin 17) (p : Fin 16384) :
    (V m c main_v1 : Vec Ideal S64x17x1x16384 .i32) (ix4 b k 0 p) = imageWord (images m c) b (16384 * k.val + p.val) := by
  unfold V V0
  after_reads_at
  by_cases hk : k.val < 16
  · rw [dif_pos hk]
    exact imageWord_at (images m c) b ⟨k.val * 32 + p.val / 512, by omega⟩ ⟨p.val % 512, by omega⟩ _ (by dsimp only; omega)
  · rw [dif_neg hk, imageWord_past _ _ _ (by omega)]
    rfl

/-- The coordinates of a grid point, and the blocks its two input windows read. -/
theorem place : ∀ t : Fin cfg0.N, (grid0.coords t 1).val = t.val % 16
    ∧ (win0_0.index t (0 : Fin 4) = t.val / 16 ∧ win0_0.index t (1 : Fin 4) = t.val % 16 ∧ win0_0.index t (2 : Fin 4) = 0 ∧ win0_0.index t (3 : Fin 4) = 0)
    ∧ (win0_1.index t (0 : Fin 4) = t.val / 16 ∧ win0_1.index t (1 : Fin 4) = t.val % 16 + 1 ∧ win0_1.index t (2 : Fin 4) = 0 ∧ win0_1.index t (3 : Fin 4) = 0) :=
  (by decide +kernel : ∀ t : Fin grid0.N, _)

/-- A lane of this chunk's block. -/
theorem block_here (c : Dev nD) (b : Fin 64) (k : Fin 16) (p : Fin 16384) :
    (iblk m c 0 (pt b k) : Vec Ideal S1x1x1x16384 .i32) (ix4 0 0 0 p) = imageWord (images m c) b (16384 * k.val + p.val) := by
  obtain ⟨-, ⟨p0, p1, p2, p3⟩, -⟩ := place (pt b k)
  rw [← padded m c b ⟨k.val, by omega⟩ p]
  unfold iblk
  show (V m c main_v1 : Vec Ideal S64x17x1x16384 .i32) (((cfg0.win 0).blk (pt b k)).view.emb (ix4 0 0 0 p)) = _
  refine congrArg _ ?_
  funext a; apply Fin.ext
  have hv : (pt b k).val = 16 * b.val + k.val := rfl
  match a with
  | ⟨0, _⟩ => show win0_0.index (pt b k) (0 : Fin 4) * 1 + 1 * 0 = b.val; omega
  | ⟨1, _⟩ => show win0_0.index (pt b k) (1 : Fin 4) * 1 + 1 * 0 = k.val; omega
  | ⟨2, _⟩ => show win0_0.index (pt b k) (2 : Fin 4) * 1 + 1 * 0 = 0; omega
  | ⟨3, _⟩ => show win0_0.index (pt b k) (3 : Fin 4) * 16384 + 1 * p.val = p.val; omega

/-- A lane of the next chunk's block. -/
theorem block_next (c : Dev nD) (b : Fin 64) (k : Fin 16) (p : Fin 16384) :
    (iblk m c 1 (pt b k) : Vec Ideal S1x1x1x16384 .i32) (ix4 0 0 0 p) = imageWord (images m c) b (16384 * k.val + (16384 + p.val)) := by
  obtain ⟨-, -, ⟨p0, p1, p2, p3⟩⟩ := place (pt b k)
  rw [show 16384 * k.val + (16384 + p.val) = 16384 * (k.val + 1) + p.val from by ring, ← padded m c b ⟨k.val + 1, by omega⟩ p]
  unfold iblk
  show (V m c main_v1 : Vec Ideal S64x17x1x16384 .i32) (((cfg0.win 1).blk (pt b k)).view.emb (ix4 0 0 0 p)) = _
  refine congrArg _ ?_
  funext a; apply Fin.ext
  have hv : (pt b k).val = 16 * b.val + k.val := rfl
  match a with
  | ⟨0, _⟩ => show win0_1.index (pt b k) (0 : Fin 4) * 1 + 1 * 0 = b.val; omega
  | ⟨1, _⟩ => show win0_1.index (pt b k) (1 : Fin 4) * 1 + 1 * 0 = k.val + 1; omega
  | ⟨2, _⟩ => show win0_1.index (pt b k) (2 : Fin 4) * 1 + 1 * 0 = 0; omega
  | ⟨3, _⟩ => show win0_1.index (pt b k) (3 : Fin 4) * 16384 + 1 * p.val = p.val; omega

/-- So each grid point reads its chunk and the next one. -/
theorem reads (c : Dev nD) (b : Fin 64) (k : Fin 16) :
    Reads (imageWord (images m c) b) (grid0.coords (pt b k) 1).val (iblk m c 0 (pt b k)) (iblk m c 1 (pt b k)) := by
  have e : (grid0.coords (pt b k) 1).val = k.val := by
    rw [(place (pt b k)).1]; show (16 * b.val + k.val) % 16 = k.val; omega
  rw [e]
  exact ⟨block_here m c b k, block_next m c b k⟩

end Cert.KernelIdeal.Hand

end
-- ==== Proof.Counts.lean ====
/- The counts carried from chunk to chunk, and the block an image's last chunk writes. -/
module

public import proofs.«01_k».proof.Proof.Blocks

@[expose] public section

set_option maxRecDepth 16384

noncomputable section

namespace Cert.KernelIdeal.Hand

open Cert.KernelIdeal Cert.KernelIdeal.Gen Cert.Glcm Idealize.ShloMosaic Idealize.ShloMosaic.TcCoe Idealize.SL.Sem

/-- The four tables side by side hold the counts over the first `n` pixels. -/
structure Counts (w : ℕ → BitVec 32) (n : ℕ) (v : Vec Ideal S256x1024 .f32) : Prop where
  t0 : ∀ a l : Fin 256, v (ix2 a ⟨l.val, by omega⟩) = ((tally 0 w a l n : ℕ) : EReal)
  t1 : ∀ a l : Fin 256, v (ix2 a ⟨256 + l.val, by omega⟩) = ((tally 1 w a l n : ℕ) : EReal)
  t2 : ∀ a l : Fin 256, v (ix2 a ⟨512 + l.val, by omega⟩) = ((tally 2 w a l n : ℕ) : EReal)
  t3 : ∀ a l : Fin 256, v (ix2 a ⟨768 + l.val, by omega⟩) = ((tally 3 w a l n : ℕ) : EReal)

/-- Zero everywhere is the count over no pixel. -/
theorem counts_zero (w : ℕ → BitVec 32) : Counts w 0 (k0_pay69 (F := Ideal)) := by
  constructor <;> intro a l <;> pointwise [k0_pay69] <;> simp [tally]

/-- One more chunk makes the counts over 16384 pixels more. -/
theorem counts_step {w : ℕ → BitVec 32} {i : grid0.Coords} {v3 v5 : Vec Ideal S1x1x1x16384 .i32} {acc : Vec Ideal S256x1024 .f32}
    (h : Reads w (i 1).val v3 v5) (hc : Counts w (16384 * (i 1).val) acc) :
    Counts w (16384 * ((i 1).val + 1)) (counted i v3 v5 acc) := by
  have e : 16384 * ((i 1).val + 1) = 16384 * (i 1).val + 16384 := by ring
  rw [e]
  constructor <;> intro a l
  · rw [counted_0 h, hc.t0, tally_add, Nat.cast_add]
  · rw [counted_1 h, hc.t1, tally_add, Nat.cast_add]
  · rw [counted_2 h, hc.t2, tally_add, Nat.cast_add]
  · rw [counted_3 h, hc.t3, tally_add, Nat.cast_add]

variable (m : (ℓ : Loc nD τ sig) → Buf (Elt Ideal) ℓ)

/-- The scratch after chunk `k` of image `b`. -/
theorem scratch (c : Dev nD) (b : Fin 64) : ∀ (k : ℕ) (hk : k < 16),
    Counts (imageWord (images m c) b) (16384 * (k + 1)) (outsAt0 m c (pt b ⟨k, hk⟩).val (pt b ⟨k, hk⟩).isLt).2 := by
  intro k
  induction k with
  | zero =>
    intro hk
    have e : (grid0.coords (pt b ⟨0, hk⟩) 1).val = 0 := by
      rw [(place _).1]; show (16 * b.val + 0) % 16 = 0; omega
    rw [outsAt0_A m c (pt b ⟨0, hk⟩) (by show (16 * b.val + 0) % 16 = 0; omega) (by show ¬ (16 * b.val + 0) % 16 = 15; omega)]
    dsimp only
    rw [sout_A]
    have hz := counts_zero (imageWord (images m c) b)
    have := counts_step (reads m c b ⟨0, hk⟩) (acc := k0_pay69 (F := Ideal)) (by rw [e]; exact hz)
    rw [e] at this
    exact this
  | succ k ih =>
    intro hk
    have e : (grid0.coords (pt b ⟨k + 1, hk⟩) 1).val = k + 1 := by
      rw [(place _).1]; show (16 * b.val + (k + 1)) % 16 = k + 1; omega
    have prev := ih (by omega)
    have step := counts_step (reads m c b ⟨k + 1, hk⟩)
      (acc := (outsAt0 m c (pt b ⟨k, by omega⟩).val (pt b ⟨k, by omega⟩).isLt).2) (by rw [e]; exact prev)
    rw [e] at step
    by_cases hl : k + 1 = 15
    · rw [outsAt0_C m c (pt b ⟨k + 1, hk⟩) (by show ¬ (16 * b.val + (k + 1)) % 16 = 0; omega) (by show (16 * b.val + (k + 1)) % 16 = 15; omega)]
      dsimp only
      rw [sout_C]
      exact step
    · rw [outsAt0_B m c (pt b ⟨k + 1, hk⟩) (by show ¬ (16 * b.val + (k + 1)) % 16 = 0; omega) (by show ¬ (16 * b.val + (k + 1)) % 16 = 15; omega)]
      dsimp only
      rw [sout_B]
      exact step

/-- A table of finished counts. -/
def full (k : Fin 4) (w : ℕ → BitVec 32) : Vec Ideal S256x256 .f32 := fun i => ((tally k w (i 0).val (i 1).val 262144 : ℕ) : EReal)

/-- The block that image `b`'s last chunk leaves: the features of its four tables of counts. -/
theorem last_block (c : Dev nD) (b : Fin 64) :
    (outsAt0 m c (pt b 15).val (pt b 15).isLt).1
      = featureRow (full 0 (imageWord (images m c) b)) (full 1 (imageWord (images m c) b))
          (full 2 (imageWord (images m c) b)) (full 3 (imageWord (images m c) b)) := by
  have h : Counts (imageWord (images m c) b) 262144 (outsAt0 m c (pt b 15).val (pt b 15).isLt).2 := scratch m c b 15 (by omega)
  rw [outsAt0_C m c (pt b 15) (by show ¬ (16 * b.val + 15) % 16 = 0; omega) (by show (16 * b.val + 15) % 16 = 15; omega)] at h ⊢
  dsimp only at h ⊢
  rw [sout_C] at h
  rw [out_C]
  congr 1
  · funext j; idx_vars j
    refine Eq.trans ?_ (h.t0 j0 j1); pointwise [table]
  · funext j; idx_vars j
    refine Eq.trans ?_ (h.t1 j0 j1); pointwise [table]
  · funext j; idx_vars j
    refine Eq.trans ?_ (h.t2 j0 j1); pointwise [table]
  · funext j; idx_vars j
    refine Eq.trans ?_ (h.t3 j0 j1); pointwise [table]

end Cert.KernelIdeal.Hand

end
-- ==== Proof.Features.lean ====
/- The five features of one table of counts: the kernel's formulas on the counts, the reference's on the normalised
   symmetric table, and their equality. -/
module

public import Idealize.ShloMosaic.Lib.Pointwise

@[expose] public section

noncomputable section

namespace Cert.Glcm

open Idealize.ShloMosaic

/-! ## The formulas -/

/-- The constant 2. -/
abbrev two : EReal := Ideal.ofBits FTy.f32 0x40000000#32
/-- The constant 4. -/
abbrev four : EReal := Ideal.ofBits FTy.f32 0x40800000#32
/-- The constant 1/4. -/
abbrev quarter : EReal := Ideal.ofBits FTy.f32 0x3E800000#32
/-- The variance below which the correlation is set to 1. -/
abbrev flat : EReal := Ideal.ofBits FTy.f32 0x26901D7D#32
/-- The least denominator of the correlation. -/
abbrev least : EReal := Ideal.ofBits FTy.f32 0x0DA24260#32

/-- A grey level as a number. -/
abbrev lv (x : Fin 256) : EReal := FloatOps.sitofp (F := Ideal) FTy.f32 (BitVec.ofNat 32 x.val)

/-- A table with a row and a column per grey level. -/
abbrev Tab := Fin 256 → Fin 256 → EReal

/-- Twice the sum of a table. -/
def kTotal (h : Tab) : EReal := two * ∑ x, ∑ y, h x y

/-- The kernel's contrast. -/
def kContrast (h : Tab) : EReal := Ideal.div (two * ∑ x, ∑ y, h x y * ((lv x - lv y) * (lv x - lv y))) (kTotal h)

/-- The kernel's dissimilarity. -/
def kDissimilarity (h : Tab) : EReal := Ideal.div (two * ∑ x, ∑ y, h x y * FloatOps.absf (F := Ideal) (φ := FTy.f32) (lv x - lv y)) (kTotal h)

/-- The kernel's homogeneity. -/
def kHomogeneity (h : Tab) : EReal :=
  Ideal.div (two * ∑ x, ∑ y, h x y * Ideal.div 1 (1 + (lv x - lv y) * (lv x - lv y))) (kTotal h)

/-- The kernel's energy. -/
def kEnergy (h : Tab) : EReal :=
  Ideal.div (Ideal.sqrt (two * ∑ x, ∑ y, h x y * h x y + two * ∑ x, ∑ y, (∑ z, h x z * h z y) * (if lv x = lv y then 1 else 0))) (kTotal h)

/-- The kernel's mean level. -/
def kMean (h : Tab) : EReal := Ideal.div (∑ x, ∑ y, h x y * (lv x + lv y)) (kTotal h)

/-- The kernel's variance. -/
def kVariance (h : Tab) : EReal :=
  Ideal.div (∑ x, ∑ y, h x y * ((lv x - kMean h) * (lv x - kMean h) + (lv y - kMean h) * (lv y - kMean h))) (kTotal h)

/-- The kernel's covariance. -/
def kCovariance (h : Tab) : EReal := Ideal.div (two * ∑ x, ∑ y, h x y * ((lv x - kMean h) * (lv y - kMean h))) (kTotal h)

/-- The kernel's correlation. -/
def kCorrelation (h : Tab) : EReal := if kVariance h < flat then 1 else Ideal.div (kCovariance h) (max (kVariance h) least)

/-- The reference's normalised symmetric table. -/
def symmetric (h : Tab) : Tab := fun i j => Ideal.div (h i j + h j i) (∑ x, ∑ y, (h x y + h y x))

/-- The reference's contrast. -/
def rContrast (p : Tab) : EReal := ∑ x, ∑ y, p x y * (lv x - lv y) * (lv x - lv y)

/-- The reference's dissimilarity. -/
def rDissimilarity (p : Tab) : EReal := ∑ x, ∑ y, p x y * FloatOps.absf (F := Ideal) (φ := FTy.f32) (lv x - lv y)

/-- The reference's homogeneity. -/
def rHomogeneity (p : Tab) : EReal := ∑ x, ∑ y, Ideal.div (p x y) (1 + (lv x - lv y) * (lv x - lv y))

/-- The reference's energy. -/
def rEnergy (p : Tab) : EReal := Ideal.sqrt (∑ x, ∑ y, p x y * p x y)

/-- The reference's deviation of a row's level. -/
def rRow (p : Tab) (i : Fin 256) : EReal := lv i - ∑ x, ∑ y, p x y * lv x

/-- The reference's deviation of a column's level. -/
def rCol (p : Tab) (j : Fin 256) : EReal := lv j - ∑ x, ∑ y, p x y * lv y

/-- The reference's product of the two standard deviations. -/
def rDeviations (p : Tab) : EReal :=
  Ideal.sqrt (∑ x, ∑ y, p x y * rRow p x * rRow p x) * Ideal.sqrt (∑ x, ∑ y, p x y * rCol p y * rCol p y)

/-- The reference's correlation. -/
def rCorrelation (p : Tab) : EReal :=
  if rDeviations p < flat then 1 else Ideal.div (∑ x, ∑ y, p x y * rRow p x * rCol p y) (max (rDeviations p) least)

/-! ## Real values -/

/-- The constant 2 is 2. -/
theorem two_eq : two = ((2 : ℝ) : EReal) := by
  simp [Ideal.ofBits, Ideal.ieee, -EReal.coe_mul]; norm_num
/-- The constant 4 is 4. -/
theorem four_eq : four = ((4 : ℝ) : EReal) := by
  simp [Ideal.ofBits, Ideal.ieee, -EReal.coe_mul]; norm_num
/-- The constant 1/4 is 1/4. -/
theorem quarter_eq : quarter = ((1 / 4 : ℝ) : EReal) := by
  simp [Ideal.ofBits, Ideal.ieee, -EReal.coe_mul]; norm_num

/-- A grey level's number. -/
theorem lv_eq (x : Fin 256) : lv x = ((x.val : ℝ) : EReal) := by
  have h : (BitVec.ofNat 32 x.val).toInt = (x.val : ℤ) := by
    rw [BitVec.toInt_eq_toNat_cond, BitVec.toNat_ofNat]; have := x.isLt; split <;> omega
  show (((BitVec.ofNat 32 x.val).toInt : ℝ) : EReal) = _
  rw [h, Int.cast_natCast]

/-- A sum of reals is a real. -/
theorem sum_eq {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A quotient of reals is a real. -/
theorem div_eq (a : ℝ) {b : ℝ} (hb : b ≠ 0) : Ideal.div (a : EReal) (b : EReal) = ((a / b : ℝ) : EReal) := by
  rw [Ideal.div_coe hb, ← EReal.coe_mul]; congr 1; field_simp

/-- The root of a real is a real. -/
theorem sqrt_eq {a : ℝ} (ha : 0 ≤ a) : Ideal.sqrt (a : EReal) = ((Real.sqrt a : ℝ) : EReal) := by
  rw [Ideal.sqrt_coe, if_neg (not_lt.mpr ha)]

/-- The absolute value of a real. -/
theorem abs_eq (a : ℝ) : FloatOps.absf (F := Ideal) (φ := FTy.f32) (a : EReal) = ((|a| : ℝ) : EReal) := by
  show max (a : EReal) (-(a : EReal)) = _
  rw [← EReal.coe_neg, abs_eq_max_neg]
  exact (EReal.coe_strictMono.monotone.map_max).symm

/-! ## The equalities -/

section
variable (g : Fin 256 → Fin 256 → ℝ)

/-- The table's sum. -/
def total : ℝ := ∑ x, ∑ y, g x y

/-- The real normalised symmetric table. -/
def q (x y : Fin 256) : ℝ := (g x y + g y x) / (2 * total g)

/-- The table's real numbers as a table. -/
abbrev up : Tab := fun x y => ((g x y : ℝ) : EReal)

/-- The symmetric table sums to twice the total. -/
theorem sum_sym : ∑ x, ∑ y, (g x y + g y x) = 2 * total g := by
  simp only [Finset.sum_add_distrib]
  rw [Finset.sum_comm (f := fun x y => g y x), two_mul]; rfl

/-- A sum against the normalised symmetric table is one against the counts. -/
theorem sum_q (f : Fin 256 → Fin 256 → ℝ) :
    ∑ x, ∑ y, q g x y * f x y = (∑ x, ∑ y, g x y * (f x y + f y x)) / (2 * total g) := by
  have e : ∀ x y, q g x y * f x y = (g x y * f x y + g y x * f x y) / (2 * total g) := fun x y => by unfold q; ring
  simp only [e, ← Finset.sum_div, mul_add, Finset.sum_add_distrib]
  rw [Finset.sum_comm (f := fun x y => g y x * f x y)]

variable {g} (ht : 0 < total g)
include ht

theorem total_ne : (2 * total g) ≠ 0 := by positivity

/-- The kernel's total as a real. -/
theorem kTotal_eq : kTotal (up g) = ((2 * total g : ℝ) : EReal) := by
  unfold kTotal total; simp only [two_eq, sum_eq, ← EReal.coe_mul]

/-- The normalised symmetric table as reals. -/
theorem symmetric_eq (x y : Fin 256) : symmetric (up g) x y = ((q g x y : ℝ) : EReal) := by
  unfold symmetric; simp only [← EReal.coe_add, sum_eq, sum_sym]
  exact div_eq _ (total_ne ht)

/-- The contrasts agree. -/
theorem contrast_eq : kContrast (up g) = rContrast (symmetric (up g)) := by
  unfold kContrast rContrast
  simp only [kTotal_eq ht, symmetric_eq ht, lv_eq, two_eq, ← EReal.coe_sub, ← EReal.coe_mul, sum_eq, div_eq _ (total_ne ht), mul_assoc]
  rw [sum_q, Finset.mul_sum]
  congr 2
  refine Finset.sum_congr rfl fun x _ => ?_
  rw [Finset.mul_sum]
  exact Finset.sum_congr rfl fun y _ => by ring

/-- The dissimilarities agree. -/
theorem dissimilarity_eq : kDissimilarity (up g) = rDissimilarity (symmetric (up g)) := by
  unfold kDissimilarity rDissimilarity
  simp only [kTotal_eq ht, symmetric_eq ht, lv_eq, two_eq, ← EReal.coe_sub, abs_eq, ← EReal.coe_mul, sum_eq, div_eq _ (total_ne ht)]
  rw [sum_q, Finset.mul_sum]
  congr 2
  refine Finset.sum_congr rfl fun x _ => ?_
  rw [Finset.mul_sum]
  exact Finset.sum_congr rfl fun y _ => by rw [abs_sub_comm (y.val : ℝ)]; ring

/-- The homogeneities agree. -/
theorem homogeneity_eq : kHomogeneity (up g) = rHomogeneity (symmetric (up g)) := by
  have hne : ∀ a b : ℝ, 1 + (a - b) * (a - b) ≠ 0 := fun a b => by nlinarith [mul_self_nonneg (a - b)]
  unfold kHomogeneity rHomogeneity
  simp only [kTotal_eq ht, symmetric_eq ht, lv_eq, two_eq, ← EReal.coe_sub, ← EReal.coe_mul, ← EReal.coe_one, ← EReal.coe_add,
    div_eq _ (hne _ _), sum_eq, div_eq _ (total_ne ht)]
  have e : ∀ x y : Fin 256, q g x y / (1 + ((x.val : ℝ) - y.val) * ((x.val : ℝ) - y.val))
      = q g x y * (1 / (1 + ((x.val : ℝ) - y.val) * ((x.val : ℝ) - y.val))) := fun x y => by ring
  simp only [e]
  rw [sum_q g (fun x y => 1 / (1 + ((x.val : ℝ) - y.val) * ((x.val : ℝ) - y.val))), Finset.mul_sum]
  congr 2
  refine Finset.sum_congr rfl fun x _ => ?_
  rw [Finset.mul_sum]
  refine Finset.sum_congr rfl fun y _ => ?_
  rw [show ((y.val : ℝ) - x.val) * ((y.val : ℝ) - x.val) = ((x.val : ℝ) - y.val) * ((x.val : ℝ) - y.val) from by ring]
  ring

/-- The sum of the squares of the normalised symmetric table. -/
theorem squares : ∑ x, ∑ y, q g x y * q g x y
    = (2 * ∑ x, ∑ y, g x y * g x y + 2 * ∑ x, ∑ z, g x z * g z x) / ((2 * total g) * (2 * total g)) := by
  rw [sum_q]
  have e : ∀ x y, g x y * (q g x y + q g y x) = (2 * (g x y * g x y) + 2 * (g x y * g y x)) / (2 * total g) := fun x y => by
    unfold q; ring
  simp only [e, ← Finset.sum_div, Finset.sum_add_distrib, ← Finset.mul_sum]
  rw [div_div]

/-- The energies agree. -/
theorem energy_eq : kEnergy (up g) = rEnergy (symmetric (up g)) := by
  have hl : ∀ x y : Fin 256, (lv x = lv y) ↔ x = y := fun x y => by
    rw [lv_eq, lv_eq, EReal.coe_eq_coe_iff, Nat.cast_inj]; exact ⟨fun h => Fin.ext h, fun h => by rw [h]⟩
  have hq : 0 ≤ ∑ x, ∑ y, q g x y * q g x y := Finset.sum_nonneg fun x _ => Finset.sum_nonneg fun y _ => mul_self_nonneg _
  have hD : 0 < (2 * total g) * (2 * total g) := by positivity
  unfold kEnergy rEnergy
  simp only [hl, mul_ite, mul_one, mul_zero, Finset.sum_ite_eq, Finset.mem_univ, if_true]
  simp only [kTotal_eq ht, symmetric_eq ht, two_eq, ← EReal.coe_mul, sum_eq, ← EReal.coe_add]
  rw [sqrt_eq hq, squares ht]
  have hk : 0 ≤ 2 * ∑ x, ∑ y, g x y * g x y + 2 * ∑ x, ∑ z, g x z * g z x := by
    rw [squares ht] at hq
    have := mul_nonneg hq hD.le
    rwa [div_mul_cancel₀ _ hD.ne'] at this
  rw [sqrt_eq hk, div_eq _ (total_ne ht), Real.sqrt_div' _ hD.le, Real.sqrt_mul_self (by positivity)]

/-- The real mean level. -/
def mean (g : Fin 256 → Fin 256 → ℝ) : ℝ := (∑ x, ∑ y, g x y * ((x.val : ℝ) + y.val)) / (2 * total g)

/-- The real variance. -/
def var (g : Fin 256 → Fin 256 → ℝ) : ℝ :=
  (∑ x, ∑ y, g x y * (((x.val : ℝ) - mean g) * (x.val - mean g) + ((y.val : ℝ) - mean g) * (y.val - mean g))) / (2 * total g)

/-- The real covariance. -/
def cov (g : Fin 256 → Fin 256 → ℝ) : ℝ :=
  (2 * ∑ x, ∑ y, g x y * (((x.val : ℝ) - mean g) * (y.val - mean g))) / (2 * total g)

/-- The kernel's mean level. -/
theorem kMean_eq : kMean (up g) = ((mean g : ℝ) : EReal) := by
  unfold kMean mean
  simp only [kTotal_eq ht, lv_eq, ← EReal.coe_add, ← EReal.coe_mul, sum_eq, div_eq _ (total_ne ht)]

/-- The kernel's variance. -/
theorem kVariance_eq : kVariance (up g) = ((var g : ℝ) : EReal) := by
  unfold kVariance var
  simp only [kTotal_eq ht, kMean_eq ht, lv_eq, ← EReal.coe_sub, ← EReal.coe_add, ← EReal.coe_mul, sum_eq, div_eq _ (total_ne ht)]

/-- The kernel's covariance. -/
theorem kCovariance_eq : kCovariance (up g) = ((cov g : ℝ) : EReal) := by
  unfold kCovariance cov
  simp only [kTotal_eq ht, kMean_eq ht, lv_eq, two_eq, ← EReal.coe_sub, ← EReal.coe_mul, sum_eq, div_eq _ (total_ne ht)]

/-- The reference's row deviation. -/
theorem rRow_eq (x : Fin 256) : rRow (symmetric (up g)) x = (((x.val : ℝ) - mean g : ℝ) : EReal) := by
  unfold rRow mean
  simp only [symmetric_eq ht, lv_eq, ← EReal.coe_mul, sum_eq]
  rw [sum_q g (fun x _ => (x.val : ℝ)), ← EReal.coe_sub]

/-- The reference's column deviation. -/
theorem rCol_eq (x : Fin 256) : rCol (symmetric (up g)) x = (((x.val : ℝ) - mean g : ℝ) : EReal) := by
  unfold rCol mean
  simp only [symmetric_eq ht, lv_eq, ← EReal.coe_mul, sum_eq]
  rw [sum_q g (fun _ y => (y.val : ℝ)), ← EReal.coe_sub]
  simp only [add_comm]

/-- The product of the standard deviations is the variance. -/
theorem rDeviations_eq (hg : ∀ x y, 0 ≤ g x y) : rDeviations (symmetric (up g)) = ((var g : ℝ) : EReal) := by
  have h1 : ∑ x, ∑ y, q g x y * (((x.val : ℝ) - mean g) * (x.val - mean g)) = var g :=
    sum_q g (fun x _ => ((x.val : ℝ) - mean g) * (x.val - mean g))
  have h2 : ∑ x, ∑ y, q g x y * (((y.val : ℝ) - mean g) * (y.val - mean g)) = var g := by
    rw [sum_q g (fun _ y => ((y.val : ℝ) - mean g) * (y.val - mean g))]
    unfold var
    simp only [add_comm]
  have hv : 0 ≤ var g := by
    unfold var
    refine div_nonneg (Finset.sum_nonneg fun x _ => Finset.sum_nonneg fun y _ => mul_nonneg (hg x y) ?_) (by positivity)
    exact add_nonneg (mul_self_nonneg _) (mul_self_nonneg _)
  unfold rDeviations
  simp only [symmetric_eq ht, rRow_eq ht, rCol_eq ht, ← EReal.coe_mul, sum_eq, mul_assoc]
  rw [h1, h2, sqrt_eq hv, ← EReal.coe_mul, Real.mul_self_sqrt hv]

/-- The correlations agree. -/
theorem correlation_eq (hg : ∀ x y, 0 ≤ g x y) : kCorrelation (up g) = rCorrelation (symmetric (up g)) := by
  have hc : ∑ x, ∑ y, symmetric (up g) x y * rRow (symmetric (up g)) x * rCol (symmetric (up g)) y = ((cov g : ℝ) : EReal) := by
    simp only [symmetric_eq ht, rRow_eq ht, rCol_eq ht, ← EReal.coe_mul, sum_eq, mul_assoc]
    rw [sum_q g (fun x y => ((x.val : ℝ) - mean g) * (y.val - mean g))]
    unfold cov
    rw [Finset.mul_sum]
    congr 2
    refine Finset.sum_congr rfl fun x _ => ?_
    rw [Finset.mul_sum]
    exact Finset.sum_congr rfl fun y _ => by ring
  unfold kCorrelation rCorrelation
  rw [hc, rDeviations_eq ht hg, kVariance_eq ht, kCovariance_eq ht]

end

/-- The mean of four numbers, as a sum of quarters and as a quarter of the sum. -/
theorem mean4 (v : Fin 4 → EReal) :
    quarter * v 0 + quarter * v 1 + quarter * v 2 + quarter * v 3 = Ideal.div (∑ k, v k) four := by
  have h0 : (0 : EReal) ≤ ((1 / 4 : ℝ) : EReal) := by exact_mod_cast (by norm_num : (0 : ℝ) ≤ 1 / 4)
  have h1 : ((1 / 4 : ℝ) : EReal) ≠ ⊤ := EReal.coe_ne_top _
  rw [four_eq, Ideal.div_coe (by norm_num), quarter_eq, mul_comm (∑ k, v k), Fin.sum_univ_four,
    EReal.left_distrib_of_nonneg_of_ne_top h0 h1, EReal.left_distrib_of_nonneg_of_ne_top h0 h1, EReal.left_distrib_of_nonneg_of_ne_top h0 h1]

end Cert.Glcm

end
-- ==== Proof.Stats.lean ====
/- The row a last chunk writes: each feature is the mean over the four tables of the kernel's formula. -/
module

public import proofs.«01_k».proof.Proof.Point
public import proofs.«01_k».proof.Proof.Features

@[expose] public section

set_option maxRecDepth 16384

noncomputable section

namespace Cert.KernelIdeal.Hand

open Cert.KernelIdeal Cert.KernelIdeal.Gen Cert.Glcm Idealize.ShloMosaic Idealize.ShloMosaic.TcCoe Idealize.SL.Sem

/-- A table of the kernel as a function of two levels. -/
abbrev tab (v : Vec Ideal S256x256 .f32) : Tab := fun i j => v (ix2 i j)

/-- The contrast in the row. -/
theorem row_0 (a b d e : Vec Ideal S256x256 .f32) :
    featureRow a b d e (ix3 0 0 0)
      = quarter * kContrast (tab a) + quarter * kContrast (tab b) + quarter * kContrast (tab d) + quarter * kContrast (tab e) := by
  unfold featureRow
  unfold_payloads
  pointwise
  unfold kContrast kTotal
  rfl

/-- The dissimilarity in the row. -/
theorem row_1 (a b d e : Vec Ideal S256x256 .f32) :
    featureRow a b d e (ix3 0 0 1)
      = quarter * kDissimilarity (tab a) + quarter * kDissimilarity (tab b) + quarter * kDissimilarity (tab d) + quarter * kDissimilarity (tab e) := by
  unfold featureRow
  unfold_payloads
  pointwise
  unfold kDissimilarity kTotal
  rfl

/-- The homogeneity in the row. -/
theorem row_2 (a b d e : Vec Ideal S256x256 .f32) :
    featureRow a b d e (ix3 0 0 2)
      = quarter * kHomogeneity (tab a) + quarter * kHomogeneity (tab b) + quarter * kHomogeneity (tab d) + quarter * kHomogeneity (tab e) := by
  unfold featureRow
  unfold_payloads
  pointwise
  unfold kHomogeneity kTotal
  rfl

/-- The energy in the row. -/
theorem row_3 (a b d e : Vec Ideal S256x256 .f32) :
    featureRow a b d e (ix3 0 0 3)
      = quarter * kEnergy (tab a) + quarter * kEnergy (tab b) + quarter * kEnergy (tab d) + quarter * kEnergy (tab e) := by
  unfold featureRow
  unfold_payloads
  pointwise
  unfold kEnergy kTotal
  rfl

/-- The correlation in the row. -/
theorem row_4 (a b d e : Vec Ideal S256x256 .f32) :
    featureRow a b d e (ix3 0 0 4)
      = quarter * kCorrelation (tab a) + quarter * kCorrelation (tab b) + quarter * kCorrelation (tab d) + quarter * kCorrelation (tab e) := by
  unfold featureRow
  unfold_payloads
  pointwise
  unfold kCorrelation kVariance kCovariance kMean kTotal
  rfl

end Cert.KernelIdeal.Hand

end
-- ==== Proof.RefStats.lean ====
/- The reference's result: each feature is a quarter of the sum over the four directions of the reference's formula. -/
module

public import proofs.«01_k».proof.Proof.Gen.ReferenceIdeal.Run
public import proofs.«01_k».proof.Proof.Features
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value Cert.Glcm Idealize.ShloMosaic Idealize.ShloMosaic.TcCoe Idealize.SL.Sem

variable (V0 : Valuation τ sig (Elt Ideal))

/-- The constant 1 is 1. -/
theorem one_word : id (constant (F := Ideal) S_ FTy.f32 0x3F800000#32) ix0 = (1 : EReal) := Ideal.ofBits_one_f32

/-- The counts of image `b` in direction `k`, as the reference computes them. -/
def count (b : Fin 64) (k : Fin 4) : Tab := fun i j => (res_main_v98 V0 : Vec Ideal S64x4x256x256 .f32) (ix4 b k i j)

/-- The normalised symmetric table of image `b` in direction `k`. -/
def prob (b : Fin 64) (k : Fin 4) : Tab := fun i j => (res_main_v135 V0 : Vec Ideal S4x64x256x256 .f32) (ix4 k b i j)

/-- The normalised symmetric table of direction 0. -/
theorem prob_0 (b : Fin 64) : prob V0 b 0 = symmetric (count V0 b 0) := by
  funext i j
  unfold prob symmetric count res_main_v135 res_main_v102 res_main_v100
  clean_types
  pointwise

/-- The normalised symmetric table of direction 1. -/
theorem prob_1 (b : Fin 64) : prob V0 b 1 = symmetric (count V0 b 1) := by
  funext i j
  unfold prob symmetric count res_main_v135 res_main_v110 res_main_v108
  clean_types
  pointwise

/-- The normalised symmetric table of direction 2. -/
theorem prob_2 (b : Fin 64) : prob V0 b 2 = symmetric (count V0 b 2) := by
  funext i j
  unfold prob symmetric count res_main_v135 res_main_v118 res_main_v116
  clean_types
  pointwise

/-- The normalised symmetric table of direction 3. -/
theorem prob_3 (b : Fin 64) : prob V0 b 3 = symmetric (count V0 b 3) := by
  funext i j
  unfold prob symmetric count res_main_v135 res_main_v126 res_main_v124
  clean_types
  pointwise

/-- In every direction the table is the normalised symmetric table of the counts. -/
theorem prob_eq (b : Fin 64) (k : Fin 4) : prob V0 b k = symmetric (count V0 b k) := by
  fin_cases k
  exacts [prob_0 V0 b, prob_1 V0 b, prob_2 V0 b, prob_3 V0 b]

/-- The contrast in the result. -/
theorem result_0 (b : Fin 64) :
    (res_main_v243 V0 : Vec Ideal S5x64 .f32) (ix2 0 b) = Ideal.div (∑ k, rContrast (prob V0 b k)) four := by
  unfold res_main_v243 res_main_v142 res_main_v139 res_main_v137
  clean_types
  pointwise
  unfold rContrast prob
  rfl

/-- The dissimilarity in the result. -/
theorem result_1 (b : Fin 64) :
    (res_main_v243 V0 : Vec Ideal S5x64 .f32) (ix2 1 b) = Ideal.div (∑ k, rDissimilarity (prob V0 b k)) four := by
  unfold res_main_v243 res_main_v142 res_main_v139 res_main_v137
  clean_types
  pointwise
  unfold rDissimilarity prob
  rfl

/-- The homogeneity in the result. -/
theorem result_2 (b : Fin 64) :
    (res_main_v243 V0 : Vec Ideal S5x64 .f32) (ix2 2 b) = Ideal.div (∑ k, rHomogeneity (prob V0 b k)) four := by
  unfold res_main_v243 res_main_v142 res_main_v139 res_main_v137
  clean_types
  pointwise
  unfold rHomogeneity prob
  rfl

/-- The energy in the result. -/
theorem result_3 (b : Fin 64) :
    (res_main_v243 V0 : Vec Ideal S5x64 .f32) (ix2 3 b) = Ideal.div (∑ k, rEnergy (prob V0 b k)) four := by
  unfold res_main_v243
  clean_types
  pointwise
  unfold rEnergy prob
  rfl

/-- The correlation in the result. -/
theorem result_4 (b : Fin 64) :
    (res_main_v243 V0 : Vec Ideal S5x64 .f32) (ix2 4 b) = Ideal.div (∑ k, rCorrelation (prob V0 b k)) four := by
  unfold res_main_v243 res_main_v216 res_main_v189 res_main_v195 res_main_v139 res_main_v137
  clean_types
  pointwise
  rw [one_word]
  unfold rCorrelation rDeviations rRow rCol prob
  rfl

end Cert.ReferenceIdeal.Hand

end
-- ==== Proof.Scatter.lean ====
/- A scatter that adds one at pairs of words, and the count over the pixels of a window, both as sums over rows and columns. -/
module

public import proofs.«01_k».proof.Proof.Tally
public import Idealize.ShloMosaic.Lib.Routing.OpsPair

@[expose] public section

set_option maxRecDepth 16384

noncomputable section

namespace Cert.Glcm

open Idealize.ShloMosaic Idealize.ShloMosaic.WordCmp

section
variable {B N R C w : ℕ}
  (wf : ScatterDims.WF (⟨2, ![B, N]⟩ : Shape) ⟨4, ![B, R, C, 2]⟩ ⟨3, ![B, R, C]⟩ [] [0, 1] [0, 1] 3)

/-- The scatter of a `B × R × C` array of scalars into a `B × N` table, by two words each. -/
abbrev byPairs : ScatterDims (⟨2, ![B, N]⟩ : Shape) ⟨4, ![B, R, C, 2]⟩ ⟨3, ![B, R, C]⟩ := ⟨[], [0, 1], [0, 1], 3, wf⟩

/-- On the table's axis `q` an update starts at its word `q`. -/
theorem start_at (idx : IVec (⟨4, ![B, R, C, 2]⟩ : Shape) w) (a : Fin B) (r : Fin R) (c : Fin C) (q : Fin 2) :
    (byPairs wf).start (ix3 a r c) idx q = (idx (ix4 a r c q)).toInt := by
  have hs : ∀ h, (byPairs wf).siIdx (ix3 a r c) ⟨List.idxOf q (byPairs wf).scatterDimsToOperandDims, h⟩ = ix4 a r c q := by
    intro h
    funext t
    apply Fin.ext
    fin_cases q <;> fin_cases t <;> rfl
  unfold ScatterDims.start
  rw [dif_pos (by fin_cases q <;> simp), hs]

/-- An update is one element, so it has no place inside a window. -/
theorem window_at (a : Fin B) (r : Fin R) (c : Fin C) (q : Fin 2) : (byPairs wf).window (ix3 a r c) q = 0 := by
  fin_cases q <;> rfl

/-- An update lands at `(b, e)` exactly when its words are `b` and `e`. -/
theorem lands (idx : IVec (⟨4, ![B, R, C, 2]⟩ : Shape) w) (a : Fin B) (r : Fin R) (c : Fin C) (b : Fin B) (e : Fin N) :
    (byPairs wf).resultIdx? (ix3 a r c) idx = some (ix2 b e)
      ↔ (idx (ix4 a r c 0)).toInt = (b.val : ℤ) ∧ (idx (ix4 a r c 1)).toInt = (e.val : ℤ) := by
  rw [Routing.resultIdx?_eq_some]
  constructor
  · intro h
    have h0 := h 0
    have h1 := h 1
    rw [start_at, window_at] at h0 h1
    exact ⟨by simpa using h0, by simpa using h1⟩
  · intro h t
    rw [start_at, window_at]
    fin_cases t
    · simpa using h.1
    · simpa using h.2

end

/-- A small number read signed is itself. -/
theorem small_int (x : BitVec 32) (h : x.toNat < 2 ^ 31) : x.toInt = (x.toNat : ℤ) := by
  rw [BitVec.toInt_eq_toNat_cond, if_pos (by omega)]

/-- The word `256 u + v` of two levels, as a number. -/
theorem pair_word (u v : BitVec 32) (hu : u.toNat < 256) (hv : v.toNat < 256) :
    (IntOp.addi (IntOp.muli u 256#32) v).toNat = u.toNat * 256 + v.toNat := by
  show (u * 256#32 + v).toNat = _
  rw [BitVec.toNat_add, BitVec.toNat_mul, BitVec.toNat_ofNat]
  omega

/-- A level is `i` exactly when its word is that of `i`. -/
theorem level_eq (u : BitVec 32) (i : Fin 256) : u = BitVec.ofNat 32 i.val ↔ u.toNat = i.val := by
  have := i.isLt
  constructor
  · intro h
    rw [h, BitVec.toNat_ofNat]
    omega
  · intro h
    apply BitVec.eq_of_toNat_eq
    rw [h, BitVec.toNat_ofNat]
    omega

/-- Adding one at (image, `256 u + v`) for every pixel counts, for image `b`, the pixels with levels `u = i` and `v = j`. -/
theorem scatter_counts {R C : ℕ}
    (wf : ScatterDims.WF (⟨2, ![64, 65536]⟩ : Shape) ⟨4, ![64, R, C, 2]⟩ ⟨3, ![64, R, C]⟩ [] [0, 1] [0, 1] 3)
    (x : FVec Ideal (⟨2, ![64, 65536]⟩ : Shape) .f32) (idx : IVec (⟨4, ![64, R, C, 2]⟩ : Shape) 32) (upd : FVec Ideal (⟨3, ![64, R, C]⟩ : Shape) .f32)
    (u v : Fin 64 → Fin R → Fin C → BitVec 32)
    (hx : ∀ p, x p = (0 : EReal)) (hupd : ∀ p, upd p = (1 : EReal))
    (h0 : ∀ a r c, idx (ix4 a r c 0) = BitVec.ofNat 32 a.val)
    (h1 : ∀ a r c, idx (ix4 a r c 1) = IntOp.addi (IntOp.muli (u a r c) 256#32) (v a r c))
    (hu : ∀ a r c, (u a r c).toNat < 256) (hv : ∀ a r c, (v a r c).toNat < 256)
    (b : Fin 64) (i j : Fin 256) (hij : i.val * 256 + j.val < 65536) :
    Host.scatterAdd (byPairs wf) x idx upd (ix2 b ⟨i.val * 256 + j.val, hij⟩)
      = ((∑ r : Fin R, ∑ c : Fin C, (if u b r c = BitVec.ofNat 32 i.val ∧ v b r c = BitVec.ofNat 32 j.val then 1 else 0) : ℕ) : EReal) := by
  show x _ + ∑ p ∈ Finset.univ.filter (fun p => (byPairs wf).resultIdx? p idx = some (ix2 b ⟨i.val * 256 + j.val, hij⟩)), upd p = _
  have cond : ∀ (a : Fin 64) (r : Fin R) (c : Fin C),
      ((idx (ix4 a r c 0)).toInt = (b.val : ℤ) ∧ (idx (ix4 a r c 1)).toInt = ((i.val * 256 + j.val : ℕ) : ℤ))
        ↔ (a = b ∧ (u a r c = BitVec.ofNat 32 i.val ∧ v a r c = BitVec.ofNat 32 j.val)) := by
    intro a r c
    have ha : (BitVec.ofNat 32 a.val).toNat = a.val := by rw [BitVec.toNat_ofNat]; omega
    have e0 : (idx (ix4 a r c 0)).toInt = (a.val : ℤ) := by
      rw [h0, small_int _ (by rw [ha]; omega), ha]
    have e1 : (idx (ix4 a r c 1)).toInt = (((u a r c).toNat * 256 + (v a r c).toNat : ℕ) : ℤ) := by
      have p := pair_word (u a r c) (v a r c) (hu a r c) (hv a r c)
      have p1 := hu a r c
      have p2 := hv a r c
      rw [h1, small_int _ (by rw [p]; omega), p]
    rw [e0, e1, level_eq, level_eq]
    have p1 := hu a r c
    have p2 := hv a r c
    have p3 := i.isLt
    have p4 := j.isLt
    constructor
    · rintro ⟨q1, q2⟩
      exact ⟨Fin.ext (by omega), by omega, by omega⟩
    · rintro ⟨q1, q2, q3⟩
      subst q1
      exact ⟨rfl, by rw [q2, q3]⟩
  rw [hx, zero_add, Finset.sum_filter, sum_idx3]
  simp only [lands, hupd, cond]
  rw [Finset.sum_eq_single b]
  · push_cast
    refine Finset.sum_congr rfl fun r _ => Finset.sum_congr rfl fun c _ => ?_
    simp
  · intro a _ hab
    refine Finset.sum_eq_zero fun r _ => Finset.sum_eq_zero fun c _ => ?_
    rw [if_neg fun h => hab h.1]
  · intro h
    exact (h (Finset.mem_univ b)).elim

/-- A sum over positions in row-major order is one over rows of sums over columns. -/
theorem by_rows (f : ℕ → ℕ) (n : ℕ) :
    ∑ q ∈ Finset.range (512 * n), f q = ∑ r ∈ Finset.range n, ∑ c ∈ Finset.range 512, f (512 * r + c) := by
  induction n with
  | zero => simp
  | succ n ih =>
    rw [Nat.mul_succ, Finset.sum_range_add, ih]
    exact (Finset.sum_range_succ (fun r => ∑ c ∈ Finset.range 512, f (512 * r + c)) n).symm

/-- A sum whose terms vanish outside a stretch is the sum over the stretch. -/
theorem stretch_only (f : ℕ → ℕ) (n o s : ℕ) (h : o + s ≤ n) (hz : ∀ c < n, ¬ (o ≤ c ∧ c < o + s) → f c = 0) :
    ∑ c ∈ Finset.range n, f c = ∑ c : Fin s, f (o + c.val) := by
  rw [← Finset.sum_range (fun c => f (o + c))]
  have e : ∑ c ∈ Finset.Ico o (o + s), f c = ∑ c ∈ Finset.range s, f (o + c) := by
    rw [Finset.sum_Ico_eq_sum_range, Nat.add_sub_cancel_left]
  rw [← e]
  symm
  apply Finset.sum_subset
  · intro c hc
    rw [Finset.mem_Ico] at hc
    rw [Finset.mem_range]
    omega
  · intro c hc hn
    rw [Finset.mem_Ico] at hn
    exact hz c (Finset.mem_range.1 hc) hn

/-- The count over the image is the count over the window of `R` rows and `C` columns from column `o` that holds every pixel with a partner. -/
theorem tally_window (k : Fin 4) (R C o : ℕ) (hR : R ≤ 512) (hC : o + C ≤ 512)
    (hin : ∀ r c, r < 512 → c < 512 → (inside k (512 * r + c) ↔ r < R ∧ o ≤ c ∧ c < o + C)) (w : ℕ → BitVec 32) (i j : ℕ) :
    tally k w i j 262144
      = ∑ r : Fin R, ∑ c : Fin C,
          if w (512 * r.val + (o + c.val)) = BitVec.ofNat 32 i ∧ w (512 * r.val + (o + c.val) + ahead k) = BitVec.ofNat 32 j then 1 else 0 := by
  have out : ∀ r c, r < 512 → c < 512 → ¬ (r < R ∧ o ≤ c ∧ c < o + C) → hit k w i j (512 * r + c) = 0 := by
    intro r c hr hc h
    unfold hit
    rw [if_neg fun q => h ((hin r c hr hc).1 q.1)]
  unfold tally
  rw [show 262144 = 512 * 512 from rfl, by_rows]
  rw [stretch_only _ 512 0 R (by omega) (fun r hr h => Finset.sum_eq_zero fun c hc =>
    out r c hr (Finset.mem_range.1 hc) (by omega))]
  refine Finset.sum_congr rfl fun r _ => ?_
  rw [Nat.zero_add]
  rw [stretch_only (fun c => hit k w i j (512 * r.val + c)) 512 o C hC (fun c hc h => out r.val c (by omega) hc (by omega))]
  refine Finset.sum_congr rfl fun c _ => ?_
  have : inside k (512 * r.val + (o + c.val)) := (hin r.val (o + c.val) (by omega) (by omega)).2 ⟨r.isLt, by omega, by omega⟩
  unfold hit
  simp only [this, true_and]

end Cert.Glcm
-- ==== Proof.RefCounts.lean ====
/- What the reference's scatters count: the pixels of each pair of levels. -/
module

public import proofs.«01_k».proof.Proof.RefStats
public import proofs.«01_k».proof.Proof.Scatter

@[expose] public section

set_option maxRecDepth 16384

noncomputable section

namespace Cert.ReferenceIdeal.Hand

open Cert.ReferenceIdeal Cert.ReferenceIdeal.Gen Cert.ReferenceIdeal.Value Cert.Glcm Idealize.ShloMosaic Idealize.ShloMosaic.TcCoe Idealize.SL.Sem

variable (V0 : Valuation τ sig (Elt Ideal))

/-- Every word of the images is a level. -/
def Levels (x : IVec Images 32) : Prop := ∀ b r c, (x (ix3 b r c)).toNat < 256

/-- Every word of an image is a level. -/
theorem level_word {x : IVec Images 32} (hx : Levels x) (b : Fin 64) (q : ℕ) : (imageWord x b q).toNat < 256 := by
  unfold imageWord
  split
  · exact hx _ _ _
  · decide

/-- The constant 0 is 0. -/
theorem zero_word : (FloatOps.ofBits FTy.f32 0x00000000#32 : Ideal FTy.f32) = (0 : EReal) := Ideal.ofBits_zero_f32

/-- The constant 1 is 1. -/
theorem one_at : (FloatOps.ofBits FTy.f32 0x3F800000#32 : Ideal FTy.f32) = (1 : EReal) := Ideal.ofBits_one_f32

/-- The number of an image is not negative, so it is not wrapped. -/
theorem image_number (a : Fin 64) :
    Scalar.select (IntOp.cmpi .slt (BitVec.ofNat 32 a.val) 0#32) (IntOp.addi (BitVec.ofNat 32 a.val) 64#32) (BitVec.ofNat 32 a.val)
      = BitVec.ofNat 32 a.val := by
  refine Routing.wrap_of_lt _ _ ?_
  rw [BitVec.toNat_ofNat]
  omega

/-- The reference's counts in direction 0 are the true ones. -/
theorem count_0 (hx : Levels (V0 (Proc.devRef .tc main_arg0))) (b : Fin 64) (i j : Fin 256) :
    count V0 b 0 i j = ((tally 0 (imageWord (V0 (Proc.devRef .tc main_arg0)) b) i.val j.val 262144 : ℕ) : EReal) := by
  rw [tally_window 0 512 511 0 (by omega) (by omega) (fun r c hr hc => by unfold inside; dsimp only; omega)]
  unfold count res_main_v98
  clean_types
  pointwise
  refine (scatter_counts (R := 512) (C := 511) scatter_S64x65536_S64x512x511x2_S64x512x511_n_01_01_3_wf _ _ _
    (fun a r c => imageWord (V0 (Proc.devRef .tc main_arg0)) a (512 * r.val + (0 + c.val)))
    (fun a r c => imageWord (V0 (Proc.devRef .tc main_arg0)) a (512 * r.val + (0 + c.val) + ahead 0))
    (fun p => ?_) (fun p => ?_) (fun a r c => ?_) (fun a r c => ?_) (fun a r c => level_word hx a _) (fun a r c => level_word hx a _) b i j _).trans ?_
  · exact zero_word
  · exact one_at
  · unfold res_main_v9
    clean_types
    pointwise
    exact image_number a
  · have e1 := imageWord_at (V0 (Proc.devRef .tc main_arg0)) a ⟨r.val, by omega⟩ ⟨c.val, by omega⟩ (512 * r.val + (0 + c.val)) (by simp; try omega)
    have e2 := imageWord_at (V0 (Proc.devRef .tc main_arg0)) a ⟨r.val, by omega⟩ ⟨1 + c.val, by omega⟩ (512 * r.val + (0 + c.val) + ahead 0) (by simp [ahead]; try omega)
    have l1 := level_word hx a (512 * r.val + (0 + c.val))
    have l2 := level_word hx a (512 * r.val + (0 + c.val) + ahead 0)
    rw [← e1] at l1
    rw [← e2] at l2
    have l := pair_word _ _ l1 l2
    rw [← e1, ← e2]
    clear e1 e2
    refine Eq.trans ?_ (Routing.wrap_of_lt _ (IntOp.addi (IntOp.addi (IntOp.muli (V0 (Proc.devRef .tc main_arg0) (ix3 a ⟨r.val, by omega⟩ ⟨c.val, by omega⟩)) 256#32) (V0 (Proc.devRef .tc main_arg0) (ix3 a ⟨r.val, by omega⟩ ⟨1 + c.val, by omega⟩))) 65536#32) ?_)
    · unfold res_main_v12
      clean_types
      pointwise
    · exact lt_of_eq_of_lt l (by omega)
  · rfl

/-- The reference's counts in direction 1 are the true ones. -/
theorem count_1 (hx : Levels (V0 (Proc.devRef .tc main_arg0))) (b : Fin 64) (i j : Fin 256) :
    count V0 b 1 i j = ((tally 1 (imageWord (V0 (Proc.devRef .tc main_arg0)) b) i.val j.val 262144 : ℕ) : EReal) := by
  rw [tally_window 1 511 511 0 (by omega) (by omega) (fun r c hr hc => by unfold inside; dsimp only; omega)]
  unfold count res_main_v98
  clean_types
  pointwise
  refine (scatter_counts (R := 511) (C := 511) scatter_S64x65536_S64x511x511x2_S64x511x511_n_01_01_3_wf _ _ _
    (fun a r c => imageWord (V0 (Proc.devRef .tc main_arg0)) a (512 * r.val + (0 + c.val)))
    (fun a r c => imageWord (V0 (Proc.devRef .tc main_arg0)) a (512 * r.val + (0 + c.val) + ahead 1))
    (fun p => ?_) (fun p => ?_) (fun a r c => ?_) (fun a r c => ?_) (fun a r c => level_word hx a _) (fun a r c => level_word hx a _) b i j _).trans ?_
  · exact zero_word
  · exact one_at
  · unfold res_main_v9
    clean_types
    pointwise
    exact image_number a
  · have e1 := imageWord_at (V0 (Proc.devRef .tc main_arg0)) a ⟨r.val, by omega⟩ ⟨c.val, by omega⟩ (512 * r.val + (0 + c.val)) (by simp; try omega)
    have e2 := imageWord_at (V0 (Proc.devRef .tc main_arg0)) a ⟨1 + r.val, by omega⟩ ⟨1 + c.val, by omega⟩ (512 * r.val + (0 + c.val) + ahead 1) (by simp [ahead]; try omega)
    have l1 := level_word hx a (512 * r.val + (0 + c.val))
    have l2 := level_word hx a (512 * r.val + (0 + c.val) + ahead 1)
    rw [← e1] at l1
    rw [← e2] at l2
    have l := pair_word _ _ l1 l2
    rw [← e1, ← e2]
    clear e1 e2
    refine Eq.trans ?_ (Routing.wrap_of_lt _ (IntOp.addi (IntOp.addi (IntOp.muli (V0 (Proc.devRef .tc main_arg0) (ix3 a ⟨r.val, by omega⟩ ⟨c.val, by omega⟩)) 256#32) (V0 (Proc.devRef .tc main_arg0) (ix3 a ⟨1 + r.val, by omega⟩ ⟨1 + c.val, by omega⟩))) 65536#32) ?_)
    · unfold res_main_v33
      clean_types
      pointwise
    · exact lt_of_eq_of_lt l (by omega)
  · rfl

/-- The reference's counts in direction 2 are the true ones. -/
theorem count_2 (hx : Levels (V0 (Proc.devRef .tc main_arg0))) (b : Fin 64) (i j : Fin 256) :
    count V0 b 2 i j = ((tally 2 (imageWord (V0 (Proc.devRef .tc main_arg0)) b) i.val j.val 262144 : ℕ) : EReal) := by
  rw [tally_window 2 511 512 0 (by omega) (by omega) (fun r c hr hc => by unfold inside; dsimp only; omega)]
  unfold count res_main_v98
  clean_types
  pointwise
  refine (scatter_counts (R := 511) (C := 512) scatter_S64x65536_S64x511x512x2_S64x511x512_n_01_01_3_wf _ _ _
    (fun a r c => imageWord (V0 (Proc.devRef .tc main_arg0)) a (512 * r.val + (0 + c.val)))
    (fun a r c => imageWord (V0 (Proc.devRef .tc main_arg0)) a (512 * r.val + (0 + c.val) + ahead 2))
    (fun p => ?_) (fun p => ?_) (fun a r c => ?_) (fun a r c => ?_) (fun a r c => level_word hx a _) (fun a r c => level_word hx a _) b i j _).trans ?_
  · exact zero_word
  · exact one_at
  · unfold res_main_v9
    clean_types
    pointwise
    exact image_number a
  · have e1 := imageWord_at (V0 (Proc.devRef .tc main_arg0)) a ⟨r.val, by omega⟩ ⟨c.val, by omega⟩ (512 * r.val + (0 + c.val)) (by simp; try omega)
    have e2 := imageWord_at (V0 (Proc.devRef .tc main_arg0)) a ⟨1 + r.val, by omega⟩ ⟨c.val, by omega⟩ (512 * r.val + (0 + c.val) + ahead 2) (by simp [ahead]; try omega)
    have l1 := level_word hx a (512 * r.val + (0 + c.val))
    have l2 := level_word hx a (512 * r.val + (0 + c.val) + ahead 2)
    rw [← e1] at l1
    rw [← e2] at l2
    have l := pair_word _ _ l1 l2
    rw [← e1, ← e2]
    clear e1 e2
    refine Eq.trans ?_ (Routing.wrap_of_lt _ (IntOp.addi (IntOp.addi (IntOp.muli (V0 (Proc.devRef .tc main_arg0) (ix3 a ⟨r.val, by omega⟩ ⟨c.val, by omega⟩)) 256#32) (V0 (Proc.devRef .tc main_arg0) (ix3 a ⟨1 + r.val, by omega⟩ ⟨c.val, by omega⟩))) 65536#32) ?_)
    · unfold res_main_v54
      clean_types
      pointwise
    · exact lt_of_eq_of_lt l (by omega)
  · rfl

/-- The reference's counts in direction 3 are the true ones. -/
theorem count_3 (hx : Levels (V0 (Proc.devRef .tc main_arg0))) (b : Fin 64) (i j : Fin 256) :
    count V0 b 3 i j = ((tally 3 (imageWord (V0 (Proc.devRef .tc main_arg0)) b) i.val j.val 262144 : ℕ) : EReal) := by
  rw [tally_window 3 511 511 1 (by omega) (by omega) (fun r c hr hc => by unfold inside; dsimp only; omega)]
  unfold count res_main_v98
  clean_types
  pointwise
  refine (scatter_counts (R := 511) (C := 511) scatter_S64x65536_S64x511x511x2_S64x511x511_n_01_01_3_wf _ _ _
    (fun a r c => imageWord (V0 (Proc.devRef .tc main_arg0)) a (512 * r.val + (1 + c.val)))
    (fun a r c => imageWord (V0 (Proc.devRef .tc main_arg0)) a (512 * r.val + (1 + c.val) + ahead 3))
    (fun p => ?_) (fun p => ?_) (fun a r c => ?_) (fun a r c => ?_) (fun a r c => level_word hx a _) (fun a r c => level_word hx a _) b i j _).trans ?_
  · exact zero_word
  · exact one_at
  · unfold res_main_v9
    clean_types
    pointwise
    exact image_number a
  · have e1 := imageWord_at (V0 (Proc.devRef .tc main_arg0)) a ⟨r.val, by omega⟩ ⟨1 + c.val, by omega⟩ (512 * r.val + (1 + c.val)) (by simp; try omega)
    have e2 := imageWord_at (V0 (Proc.devRef .tc main_arg0)) a ⟨1 + r.val, by omega⟩ ⟨c.val, by omega⟩ (512 * r.val + (1 + c.val) + ahead 3) (by simp [ahead]; try omega)
    have l1 := level_word hx a (512 * r.val + (1 + c.val))
    have l2 := level_word hx a (512 * r.val + (1 + c.val) + ahead 3)
    rw [← e1] at l1
    rw [← e2] at l2
    have l := pair_word _ _ l1 l2
    rw [← e1, ← e2]
    clear e1 e2
    refine Eq.trans ?_ (Routing.wrap_of_lt _ (IntOp.addi (IntOp.addi (IntOp.muli (V0 (Proc.devRef .tc main_arg0) (ix3 a ⟨r.val, by omega⟩ ⟨1 + c.val, by omega⟩)) 256#32) (V0 (Proc.devRef .tc main_arg0) (ix3 a ⟨1 + r.val, by omega⟩ ⟨c.val, by omega⟩))) 65536#32) ?_)
    · unfold res_main_v75
      clean_types
      pointwise
    · exact lt_of_eq_of_lt l (by omega)
  · rfl

end Cert.ReferenceIdeal.Hand
-- ==== Proof.Equal.lean ====
/- Kernel and reference compute the same features of the same levels. -/
module

public import proofs.«01_k».proof.Proof.Array
public import proofs.«01_k».proof.Proof.Counts
public import proofs.«01_k».proof.Proof.Stats
public import proofs.«01_k».proof.Proof.RefCounts
public import proofs.«01_k».proof.Proof.Gen.Pre_levels
public import Idealize.ShloMosaic.Lib.ReduceAll

@[expose] public section

set_option maxRecDepth 16384

noncomputable section

namespace Cert.Equal

open Cert.Glcm Idealize.ShloMosaic Idealize.ShloMosaic.TcCoe Idealize.SL.Sem
open Cert.ReferenceIdeal.Hand (Levels level_word count prob)
open Cert.KernelIdeal.Hand (full tab)

/-- What the precondition says: every word of the images is a level. -/
theorem levels_of_pre (x : IVec Images 32) (h : Cert.Pre_levels.fn (F := Ideal) x = fun _ => 1#1) : Levels x := by
  intro b r c
  have sub : Subsingleton Cert.Pre_levels.S_.Idx := ⟨fun p q => funext fun t => t.elim0⟩
  have e := Host.reduce_andi_all _ _ _ _ ix0 (congrFun h ix0) (ix3 b r c)
  have e2 : IntOp.andi (IntOp.cmpi .sge (x (ix3 b r c)) 0#32) (IntOp.cmpi .slt (x (ix3 b r c)) (BitVec.ofNat 32 256)) = 1#1 := e
  rw [WordCmp.andi_sge_zero_slt_ofNat (by norm_num)] at e2
  by_contra hn
  rw [decide_eq_false hn] at e2
  exact absurd e2 (by decide)

/-- The counts of an image in direction `k`, as reals. -/
def reals (k : Fin 4) (w : ℕ → BitVec 32) (i j : Fin 256) : ℝ := ((tally k w i.val j.val 262144 : ℕ) : ℝ)

/-- The kernel's table of counts is the counts. -/
theorem tab_full (k : Fin 4) (w : ℕ → BitVec 32) : tab (full k w) = up (reals k w) := rfl

/-- Counts are not negative. -/
theorem reals_nonneg (k : Fin 4) (w : ℕ → BitVec 32) (i j : Fin 256) : 0 ≤ reals k w i j := Nat.cast_nonneg _

/-- The pixel at row 1 and column 1 has a partner in every direction, so some pair of levels is counted. -/
theorem total_pos (k : Fin 4) (w : ℕ → BitVec 32) (hw : ∀ q, (w q).toNat < 256) : 0 < total (reals k w) := by
  have one : 0 < reals k w ⟨(w 513).toNat, hw _⟩ ⟨(w (513 + ahead k)).toNat, hw _⟩ := by
    unfold reals
    refine Nat.cast_pos.2 ?_
    unfold tally
    refine lt_of_lt_of_le Nat.one_pos ?_
    have h1 : hit k w (w 513).toNat (w (513 + ahead k)).toNat 513 = 1 := by
      unfold hit
      have hin : inside k 513 := by fin_cases k <;> (unfold inside; norm_num)
      exact if_pos ⟨hin, by simp, by simp⟩
    rw [← h1]
    exact Finset.single_le_sum (f := fun q => hit k w (w 513).toNat (w (513 + ahead k)).toNat q) (fun _ _ => Nat.zero_le _)
      (Finset.mem_range.2 (by norm_num))
  unfold total
  refine Finset.sum_pos' (fun x _ => Finset.sum_nonneg fun y _ => reals_nonneg k w x y) ⟨⟨(w 513).toNat, hw _⟩, Finset.mem_univ _, ?_⟩
  exact Finset.sum_pos' (fun y _ => reals_nonneg k w _ y) ⟨⟨(w (513 + ahead k)).toNat, hw _⟩, Finset.mem_univ _, one⟩

/-- The reference's table of counts is the counts. -/
theorem count_eq (V0 : Valuation Cert.ReferenceIdeal.τ Cert.ReferenceIdeal.sig (Elt Ideal))
    (hx : Levels (V0 (Proc.devRef .tc Cert.ReferenceIdeal.main_arg0))) (b : Fin 64) (k : Fin 4) :
    count V0 b k = up (reals k (imageWord (V0 (Proc.devRef .tc Cert.ReferenceIdeal.main_arg0)) b)) := by
  funext i j
  fin_cases k
  · exact Cert.ReferenceIdeal.Hand.count_0 V0 hx b i j
  · exact Cert.ReferenceIdeal.Hand.count_1 V0 hx b i j
  · exact Cert.ReferenceIdeal.Hand.count_2 V0 hx b i j
  · exact Cert.ReferenceIdeal.Hand.count_3 V0 hx b i j

/-- A feature that both formulas give alike for every table of counts has the same mean over the four directions. -/
theorem mean_eq (kF rF : Tab → EReal) (w : ℕ → BitVec 32)
    (h : ∀ k, kF (up (reals k w)) = rF (symmetric (up (reals k w)))) :
    quarter * kF (tab (full 0 w)) + quarter * kF (tab (full 1 w)) + quarter * kF (tab (full 2 w)) + quarter * kF (tab (full 3 w))
      = Ideal.div (∑ k, rF (symmetric (up (reals k w)))) four := by
  simp only [tab_full]
  rw [mean4 (fun k => kF (up (reals k w)))]
  simp only [h]

section
variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))
  (same : (V0 (Proc.devRef .tc Cert.ReferenceIdeal.main_arg0) : IVec Images 32) = Cert.KernelIdeal.Hand.images m c)
  (hx : Levels (Cert.KernelIdeal.Hand.images m c))

include same hx in
/-- The reference's normalised table is that of the counts. -/
theorem prob_full (b : Fin 64) (k : Fin 4) :
    prob V0 b k = symmetric (up (reals k (imageWord (Cert.KernelIdeal.Hand.images m c) b))) := by
  rw [Cert.ReferenceIdeal.Hand.prob_eq, count_eq V0 (by rw [same]; exact hx), same]

include same hx in
/-- Kernel and reference agree on every feature of every image. -/
theorem feature_eq (b : Fin 64) (k : Fin 5) :
    Cert.KernelIdeal.Hand.firstFive (Cert.KernelIdeal.Hand.rows m c) (ix2 b k)
      = (Cert.ReferenceIdeal.Value.res_main_v243 V0 : Vec Ideal Cert.ReferenceIdeal.S5x64 .f32) (ix2 k b) := by
  have left : ∀ k : Fin 5, Cert.KernelIdeal.Hand.firstFive (Cert.KernelIdeal.Hand.rows m c) (ix2 b k)
      = (Cert.KernelIdeal.Gen.outsAt0 m c (Cert.KernelIdeal.Hand.pt b 15).val (Cert.KernelIdeal.Hand.pt b 15).isLt).1 (ix3 0 0 ⟨k.val, by omega⟩) := by
    intro k
    unfold Cert.KernelIdeal.Hand.firstFive
    pointwise
    rfl
  have hw : ∀ q, (imageWord (Cert.KernelIdeal.Hand.images m c) b q).toNat < 256 := level_word hx b
  have ht := fun k => total_pos k (imageWord (Cert.KernelIdeal.Hand.images m c) b) hw
  rw [left, Cert.KernelIdeal.Hand.last_block]
  fin_cases k
  · refine (Cert.KernelIdeal.Hand.row_0 _ _ _ _).trans ((mean_eq _ _ _ fun k => contrast_eq (ht k)).trans ?_)
    refine Eq.trans ?_ (Cert.ReferenceIdeal.Hand.result_0 V0 b).symm
    simp only [prob_full m c V0 same hx]
  · refine (Cert.KernelIdeal.Hand.row_1 _ _ _ _).trans ((mean_eq _ _ _ fun k => dissimilarity_eq (ht k)).trans ?_)
    refine Eq.trans ?_ (Cert.ReferenceIdeal.Hand.result_1 V0 b).symm
    simp only [prob_full m c V0 same hx]
  · refine (Cert.KernelIdeal.Hand.row_2 _ _ _ _).trans ((mean_eq _ _ _ fun k => homogeneity_eq (ht k)).trans ?_)
    refine Eq.trans ?_ (Cert.ReferenceIdeal.Hand.result_2 V0 b).symm
    simp only [prob_full m c V0 same hx]
  · refine (Cert.KernelIdeal.Hand.row_3 _ _ _ _).trans ((mean_eq _ _ _ fun k => energy_eq (ht k)).trans ?_)
    refine Eq.trans ?_ (Cert.ReferenceIdeal.Hand.result_3 V0 b).symm
    simp only [prob_full m c V0 same hx]
  · refine (Cert.KernelIdeal.Hand.row_4 _ _ _ _).trans ((mean_eq _ _ _ fun k => correlation_eq (ht k) (reals_nonneg k _)).trans ?_)
    refine Eq.trans ?_ (Cert.ReferenceIdeal.Hand.result_4 V0 b).symm
    simp only [prob_full m c V0 same hx]

include same hx in
/-- The kernel's result is the reference's. -/
theorem result_eq :
    Cert.KernelIdeal.Hand.firstFive (Cert.KernelIdeal.Hand.rows m c)
      = transpose Cert.ReferenceIdeal.S64x5 [1, 0] (Cert.ReferenceIdeal.Value.res_main_v243 V0)
          Cert.ReferenceIdeal.Gen.transposes_S5x64_S64x5_1_0 := by
  funext p
  rw [eq_ix2 p]
  refine (feature_eq m c V0 same hx (p 0) (p 1)).trans ?_
  symm
  pointwise

end

end Cert.Equal
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_levels
public import proofs.«01_k».proof.Proof.Equal

@[expose] public section

noncomputable section

namespace Cert.Proof

open Idealize.ShloMosaic Idealize.SL.Sem

/-- The kernel runs and leaves its argument as it was, every counter back at zero. -/
theorem frame_kernel : Cert.quiescent_Kernel := fun m ρ _ => Cert.Kernel.Gen.frame m ρ

/-- The idealized kernel runs and leaves its argument as it was, every counter back at zero. -/
theorem frame_kernelIdeal : Cert.quiescent_KernelIdeal := fun m ρ _ => Cert.KernelIdeal.Gen.frame m ρ

/-- The reference runs and leaves its argument as it was; it has no counters. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On images of levels the idealized kernel runs just as well. -/
theorem frame_kernelIdeal_levels : Cert.quiescent_KernelIdeal_pre_levels := fun m ρ _ => Cert.KernelIdeal.Gen.frame m ρ

/-- On images of levels the reference runs just as well. -/
theorem frame_referenceIdeal_levels : Cert.quiescent_ReferenceIdeal_pre_levels := fun m ρ _ =>
  frame_referenceIdeal m ρ trivial

/-- On images of levels the idealized kernel and the reference end with the same features. -/
theorem algebraic : Cert.algebraic_KernelIdeal_ReferenceIdeal_pre_levels := by
  intro m ρ m' ρ' pre same
  refine ⟨fun c => Cert.KernelIdeal.Hand.firstFive (Cert.KernelIdeal.Hand.rows m c), Cert.KernelIdeal.Hand.run m ρ, ?_⟩
  refine (θ_run Cert.ReferenceIdeal.defs _ _).mono (fun r h c => ⟨?_, (h c).2⟩) (Cert.ReferenceIdeal.Value.run (F := Ideal) m' ρ')
  have e := Cert.Equal.result_eq m c (StableHlo.launchContents m' c) (same c) (Cert.Equal.levels_of_pre _ (pre c))
  exact (h c).1.trans e.symm

/-- Everything claimed. -/
theorem claim : Cert.Claim := ⟨Cert.Kernel.Gen.facts, Cert.KernelIdeal.Gen.facts, Cert.ReferenceIdeal.Gen.facts, Cert.Pre_levels.Gen.facts,
  frame_kernel, frame_kernelIdeal, frame_kernelIdeal_levels, frame_referenceIdeal, frame_referenceIdeal_levels, trivial, algebraic⟩

end Cert.Proof

end
